-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S7x8x128 : Shape := ⟨3, ![7, 8, 128]⟩
abbrev S14 : Shape := ⟨1, ![14]⟩
abbrev S3 : Shape := ⟨1, ![3]⟩
abbrev S256x1024 : Shape := ⟨2, ![256, 1024]⟩
abbrev S256x2048 : Shape := ⟨2, ![256, 2048]⟩
abbrev S1x256x2048 : Shape := ⟨3, ![1, 256, 2048]⟩
abbrev S1x1x1 : Shape := ⟨3, ![1, 1, 1]⟩
abbrev S8x128 : Shape := ⟨2, ![8, 128]⟩
abbrev S1x8x128 : Shape := ⟨3, ![1, 8, 128]⟩
abbrev S_ : Shape := ⟨0, ![]⟩
abbrev S512x1024 : Shape := ⟨2, ![512, 1024]⟩
abbrev S512x2048 : Shape := ⟨2, ![512, 2048]⟩
abbrev S1x512x2048 : Shape := ⟨3, ![1, 512, 2048]⟩
abbrev S1024x1024 : Shape := ⟨2, ![1024, 1024]⟩
abbrev S1x1024x2048 : Shape := ⟨3, ![1, 1024, 2048]⟩

abbrev nBuf : Space → Nat
  | .hbm => 5
  | .vmem => 12
  | .smem => 2
  | _ => 0

abbrev bufTy : (tb : Table) → Fin (tcTables nBuf tb) → BufTy
  | .hbm, ⟨0, _⟩ => ⟨S4096x1024, .fp8e5m2⟩
  | .hbm, ⟨1, _⟩ => ⟨S1024x2048, .fp8e5m2⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .fp8e5m2⟩
  | .local _ .vmem, ⟨1, _⟩ => ⟨S1024x2048, .fp8e5m2⟩
  | .local _ .vmem, ⟨2, _⟩ => ⟨S1024x2048, .f32⟩
  | .local _ .vmem, ⟨3, _⟩ => ⟨S1024x2048, .f32⟩
  | .local _ .vmem, ⟨4, _⟩ => ⟨S1024x2048, .i8⟩
  | .local _ .vmem, ⟨5, _⟩ => ⟨S1024x2048, .i8⟩
  | .local _ .vmem, ⟨6, _⟩ => ⟨S1024x2048, .i8⟩
  | .local _ .vmem, ⟨7, _⟩ => ⟨S1024x2048, .i8⟩
  | .local _ .vmem, ⟨8, _⟩ => ⟨S1024x2048, .i8⟩
  | .local _ .vmem, ⟨9, _⟩ => ⟨S1024x2048, .i8⟩
  | .local _ .vmem, ⟨10, _⟩ => ⟨S7x8x128, .f32⟩
  | .local _ .vmem, ⟨11, _⟩ => ⟨S7x8x128, .f32⟩
  | .local _ .smem, ⟨0, _⟩ => ⟨S1, .f32⟩
  | .local _ .smem, ⟨1, _⟩ => ⟨S1, .f32⟩
  | _, _ => ⟨S4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c3_i32_2 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v7 : BitVec 32 := Scalar.subi c3_i32_2 v3
  let c1024_i32 : BitVec 32 := 1024#32
  let v9 : BitVec 32 := Scalar.muli v7 c1024_i32
  let v10 : BitVec 32 := Scalar.addi v9 c0_i32
  let v11 : Index := Scalar.indexCast v10
  let c0_4 : Index := 0#32
  ![v11.toNat, 0]
def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_16 : BitVec 32 := 1#32
  let v38 : BitVec 32 := Scalar.muli v3 c1_i32_16
  let v39 : BitVec 32 := Scalar.addi c0_i32_17 v38
  v39.toNat
def k0_dev2 (d0 : Dev nD) : Nat :=
  let c0_i32_20 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_19 : BitVec 32 := 1#32
  let v40 : BitVec 32 := Scalar.muli v4 c1_i32_19
  let v41 : BitVec 32 := Scalar.addi c0_i32_20 v40
  v41.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_23 : BitVec 32 := 1#32
  let v42 : BitVec 32 := Scalar.muli v3 c1_i32_23
  let v43 : BitVec 32 := Scalar.addi c0_i32_24 v42
  v43.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_30 : BitVec 32 := 1#32
  let v50 : BitVec 32 := Scalar.muli v3 c1_i32_30
  let v51 : BitVec 32 := Scalar.addi c0_i32_31 v50
  v51.toNat
def k0_off2 (d0 : Dev nD) : Fin 2 → Nat :=
  let c3_i32_2 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v7 : BitVec 32 := Scalar.subi c3_i32_2 v3
  let c1024_i32_38 : BitVec 32 := 1024#32
  let v58 : BitVec 32 := Scalar.muli v7 c1024_i32_38
  let c256_i32 : BitVec 32 := 256#32
  let v59 : BitVec 32 := Scalar.addi v58 c256_i32
  let v60 : Index := Scalar.indexCast v59
  let c0_39 : Index := 0#32
  ![v60.toNat, 0]
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_51 : BitVec 32 := 1#32
  let v86 : BitVec 32 := Scalar.muli v3 c1_i32_51
  let v87 : BitVec 32 := Scalar.addi c0_i32_52 v86
  v87.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_58 : BitVec 32 := 1#32
  let v94 : BitVec 32 := Scalar.muli v3 c1_i32_58
  let v95 : BitVec 32 := Scalar.addi c0_i32_59 v94
  v95.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_79 : BitVec 32 := 1#32
  let v130 : BitVec 32 := Scalar.muli v3 c1_i32_79
  let v131 : BitVec 32 := Scalar.addi c0_i32_80 v130
  v131.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_86 : BitVec 32 := 1#32
  let v138 : BitVec 32 := Scalar.muli v3 c1_i32_86
  let v139 : BitVec 32 := Scalar.addi c0_i32_87 v138
  v139.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1024_i32_94 : BitVec 32 := 1024#32
  let v146 : BitVec 32 := Scalar.muli v3 c1024_i32_94
  let v147 : Index := Scalar.indexCast v146
  let c0_95 : Index := 0#32
  ![v147.toNat, 0]
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_108 : BitVec 32 := 1#32
  let v173 : BitVec 32 := Scalar.muli v3 c1_i32_108
  let v174 : BitVec 32 := Scalar.addi c0_i32_109 v173
  v174.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_115 : BitVec 32 := 1#32
  let v181 : BitVec 32 := Scalar.muli v3 c1_i32_115
  let v182 : BitVec 32 := Scalar.addi c0_i32_116 v181
  v182.toNat
def k0_off4 (d0 : Dev nD) (c0_i32_124 : BitVec 32) : Fin 2 → Nat :=
  let c3_i32_3 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.subi c3_i32_3 v2
  let c1024_i32_123 : BitVec 32 := 1024#32
  let v189 : BitVec 32 := Scalar.muli v8 c1024_i32_123
  let v190 : BitVec 32 := Scalar.addi v189 c0_i32_124
  let v191 : Index := Scalar.indexCast v190
  let c0_125 : Index := 0#32
  ![v191.toNat, 0]
def k0_dev11 (d0 : Dev nD) : Nat :=
  let c0_i32_182 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_181 : BitVec 32 := 1#32
  let v248 : BitVec 32 := Scalar.muli v4 c1_i32_181
  let v249 : BitVec 32 := Scalar.addi c0_i32_182 v248
  v249.toNat
def k0_dev12 (d0 : Dev nD) : Nat :=
  let c0_i32_189 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_188 : BitVec 32 := 1#32
  let v256 : BitVec 32 := Scalar.muli v4 c1_i32_188
  let v257 : BitVec 32 := Scalar.addi c0_i32_189 v256
  v257.toNat
def k0_off5 (d0 : Dev nD) : Fin 2 → Nat :=
  let c3_i32_3 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.subi c3_i32_3 v2
  let c1024_i32_196 : BitVec 32 := 1024#32
  let v264 : BitVec 32 := Scalar.muli v8 c1024_i32_196
  let c256_i32_197 : BitVec 32 := 256#32
  let v265 : BitVec 32 := Scalar.addi v264 c256_i32_197
  let v266 : Index := Scalar.indexCast v265
  let c0_198 : Index := 0#32
  ![v266.toNat, 0]
def k0_dev13 (d0 : Dev nD) : Nat :=
  let c0_i32_254 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_253 : BitVec 32 := 1#32
  let v323 : BitVec 32 := Scalar.muli v4 c1_i32_253
  let v324 : BitVec 32 := Scalar.addi c0_i32_254 v323
  v324.toNat
def k0_dev14 (d0 : Dev nD) : Nat :=
  let c0_i32_261 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_260 : BitVec 32 := 1#32
  let v331 : BitVec 32 := Scalar.muli v4 c1_i32_260
  let v332 : BitVec 32 := Scalar.addi c0_i32_261 v331
  v332.toNat
def k0_dev15 (d0 : Dev nD) : Nat :=
  let c0_i32_326 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_325 : BitVec 32 := 1#32
  let v398 : BitVec 32 := Scalar.muli v4 c1_i32_325
  let v399 : BitVec 32 := Scalar.addi c0_i32_326 v398
  v399.toNat
def k0_dev16 (d0 : Dev nD) : Nat :=
  let c0_i32_333 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_332 : BitVec 32 := 1#32
  let v406 : BitVec 32 := Scalar.muli v4 c1_i32_332
  let v407 : BitVec 32 := Scalar.addi c0_i32_333 v406
  v407.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_340 : BitVec 32 := 1024#32
  let v414 : BitVec 32 := Scalar.muli v2 c1024_i32_340
  let v415 : Index := Scalar.indexCast v414
  let c0_341 : Index := 0#32
  ![v415.toNat, 0]
abbrev stage0_0 : Fin 1 → Memref sig .tc .vmem S4096x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S4096x1024 : Shape := ⟨2, ![4096, 1024]⟩
abbrev S1024x2048 : Shape := ⟨2, ![1024, 2048]⟩
abbrev S256x2048 : Shape := ⟨2, ![256, 2048]⟩
abbrev S1x256x2048 : Shape := ⟨3, ![1, 256, 2048]⟩
abbrev S1x1x1 : Shape := ⟨3, ![1, 1, 1]⟩
abbrev S512x2048 : Shape := ⟨2, ![512, 2048]⟩
abbrev S1x512x2048 : Shape := ⟨3, ![1, 512, 2048]⟩
abbrev S1x1024x2048 : Shape := ⟨3, ![1, 1024, 2048]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
# The exchange between the four devices: memrefs, channels, values, schedule, levels

Device `c` talks to two others: `p1 c` (its number with the lowest bit flipped) and `p2 c` (three minus its
number). Fourteen CHANNELS carry everything: channel `i < 7` is the `i`-th transfer of eight-bit blocks, channel
`i + 7` the transfer of its scale. Channels `0, 1, 2, 3` and their scales go to `p1 c`, channels `4, 5, 6` and
theirs to `p2 c`. Every channel has one send cell on the sender and one receive cell on the receiver; the runtime's
barrier semaphore is the handshake before the first transfer; three more cells count the copies of the result.

The values every channel carries are functions of the two staged operands of the devices (`Xs`, `Ws`), written with
the payload names of the printed skeleton.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two partners -/

set_option backward.proofsInPublic true in
def p1 (c : Dev nD) : Dev nD := ⟨(c.val + 1) - 2 * (c.val % 2), by have := c.isLt; change c.val < 4 at this; change _ < 4; omega⟩
set_option backward.proofsInPublic true in
def p2 (c : Dev nD) : Dev nD := ⟨3 - c.val, by change _ < 4; omega⟩

theorem p1_p1 (c : Dev nD) : p1 (p1 c) = c := by revert c; decide
theorem p2_p2 (c : Dev nD) : p2 (p2 c) = c := by revert c; decide

/-- The device channel `i` of `c` sends to, which is also the one it receives channel `i` from. -/
def peer (c : Dev nD) (i : Fin 14) : Dev nD := if i.val % 7 < 4 then p1 c else p2 c

theorem peer_peer (c : Dev nD) (i : Fin 14) : peer (peer c i) i = c := by
  unfold peer; split
  · exact p1_p1 c
  · exact p2_p2 c

def flip1 : Dev nD ≃ Dev nD := ⟨p1, p1, p1_p1, p1_p1⟩
def flip2 : Dev nD ≃ Dev nD := ⟨p2, p2, p2_p2, p2_p2⟩
def flip (i : Fin 14) : Dev nD ≃ Dev nD := ⟨fun c => peer c i, fun c => peer c i, fun c => peer_peer c i, fun c => peer_peer c i⟩

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = peer c 0 := by revert c; decide +kernel
theorem dev4_eq (c : Dev nD) : (⟨k0_dev4 c, k0_dev4_lt c⟩ : Dev nD) = peer c 7 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 8 := by revert c; decide +kernel
theorem dev7_eq (c : Dev nD) : (⟨k0_dev7 c, k0_dev7_lt c⟩ : Dev nD) = peer c 2 := by revert c; decide +kernel
theorem dev8_eq (c : Dev nD) : (⟨k0_dev8 c, k0_dev8_lt c⟩ : Dev nD) = peer c 9 := by revert c; decide +kernel
theorem dev9_eq (c : Dev nD) : (⟨k0_dev9 c, k0_dev9_lt c⟩ : Dev nD) = peer c 3 := by revert c; decide +kernel
theorem dev10_eq (c : Dev nD) : (⟨k0_dev10 c, k0_dev10_lt c⟩ : Dev nD) = peer c 10 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 11 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 12 := by revert c; decide +kernel
theorem dev15_eq (c : Dev nD) : (⟨k0_dev15 c, k0_dev15_lt c⟩ : Dev nD) = peer c 6 := by revert c; decide +kernel
theorem dev16_eq (c : Dev nD) : (⟨k0_dev16 c, k0_dev16_lt c⟩ : Dev nD) = peer c 13 := by revert c; decide +kernel

/-! ## The memrefs and their pieces -/

abbrev xM : Memref sig .tc .vmem S4096x1024 .fp8e5m2 := Memref.whole cc0_stg0_0
abbrev wM : Memref sig .tc .vmem S1024x2048 .fp8e5m2 := Memref.whole cc0_stg1_0
abbrev sxM : Memref sig .tc .smem S1 .f32 := Memref.whole cc0_stg2_0
abbrev swM : Memref sig .tc .smem S1 .f32 := Memref.whole cc0_stg3_0
abbrev outM : Memref sig .tc .hbm S1024x2048 .f32 := Memref.whole main_v1
abbrev accM : Memref sig .tc .vmem S1024x2048 .f32 := Memref.whole cc0_scratch0
abbrev fwdM : Memref sig .tc .vmem S1024x2048 .f32 := Memref.whole cc0_scratch1
abbrev sAsM : Memref sig .tc .vmem S1024x2048 .i8 := Memref.whole cc0_scratch2
abbrev sArM : Memref sig .tc .vmem S1024x2048 .i8 := Memref.whole cc0_scratch3
abbrev sBsM : Memref sig .tc .vmem S1024x2048 .i8 := Memref.whole cc0_scratch4
abbrev sBrM : Memref sig .tc .vmem S1024x2048 .i8 := Memref.whole cc0_scratch5
abbrev sCsM : Memref sig .tc .vmem S1024x2048 .i8 := Memref.whole cc0_scratch6
abbrev sCrM : Memref sig .tc .vmem S1024x2048 .i8 := Memref.whole cc0_scratch7
abbrev zsM : Memref sig .tc .vmem S7x8x128 .f32 := Memref.whole cc0_scratch8
abbrev zrM : Memref sig .tc .vmem S7x8x128 .f32 := Memref.whole cc0_scratch9

/-- The row groups `[0, 256)`, `[256, 768)`, `[768, 1024)`, and all rows. -/
abbrev g0 : Rect S1024x2048 := Rect.unit (s := S1024x2048) ![0, 0] S256x2048.size inb_S1024x2048_S256x2048_0_0
abbrev g1 : Rect S1024x2048 := Rect.unit (s := S1024x2048) ![256, 0] S512x2048.size inb_S1024x2048_S512x2048_256_0
abbrev g2 : Rect S1024x2048 := Rect.unit (s := S1024x2048) ![768, 0] S256x2048.size inb_S1024x2048_S256x2048_768_0
abbrev gA : Rect S1024x2048 := Rect.unit (s := S1024x2048) ![0, 0] S1024x2048.size inb_S1024x2048_S1024x2048_0_0

/-- Row group `k` of a block of 1024 rows. -/
abbrev grp (k : Fin 3) : Rect S1024x2048 := match k with | 0 => g0 | 1 => g1 | 2 => g2

/-- The slabs of a scale buffer. -/
abbrev z0 : Rect S7x8x128 := Rect.unit (s := S7x8x128) ![0, 0, 0] S1x8x128.size inb_S7x8x128_S1x8x128_0_0_0
abbrev z1 : Rect S7x8x128 := Rect.unit (s := S7x8x128) ![1, 0, 0] S1x8x128.size inb_S7x8x128_S1x8x128_1_0_0
abbrev z2 : Rect S7x8x128 := Rect.unit (s := S7x8x128) ![2, 0, 0] S1x8x128.size inb_S7x8x128_S1x8x128_2_0_0
abbrev z3 : Rect S7x8x128 := Rect.unit (s := S7x8x128) ![3, 0, 0] S1x8x128.size inb_S7x8x128_S1x8x128_3_0_0
abbrev z4 : Rect S7x8x128 := Rect.unit (s := S7x8x128) ![4, 0, 0] S1x8x128.size inb_S7x8x128_S1x8x128_4_0_0
abbrev z5 : Rect S7x8x128 := Rect.unit (s := S7x8x128) ![5, 0, 0] S1x8x128.size inb_S7x8x128_S1x8x128_5_0_0
abbrev z6 : Rect S7x8x128 := Rect.unit (s := S7x8x128) ![6, 0, 0] S1x8x128.size inb_S7x8x128_S1x8x128_6_0_0
abbrev slab (k : Fin 7) : Rect S7x8x128 := match k with | 0 => z0 | 1 => z1 | 2 => z2 | 3 => z3 | 4 => z4 | 5 => z5 | 6 => z6

/-- A channel: the shape and element type it carries, the sender's memref, the receiver's. -/
structure Chan where
  s : Shape
  e : EltTy
  src : Memref sig .tc .vmem s e
  dst : Memref sig .tc .vmem s e

/-- The fourteen channels. -/
abbrev chan : Fin 14 → Chan := fun
  | 0 => ⟨S256x2048, .i8, sAsM.slice g0 (fun _ => rfl), sArM.slice g0 (fun _ => rfl)⟩
  | 1 => ⟨S512x2048, .i8, sAsM.slice g1 (fun _ => rfl), sArM.slice g1 (fun _ => rfl)⟩
  | 2 => ⟨S256x2048, .i8, sAsM.slice g2 (fun _ => rfl), sArM.slice g2 (fun _ => rfl)⟩
  | 3 => ⟨S1024x2048, .i8, sBsM.slice gA (fun _ => rfl), sBrM.slice gA (fun _ => rfl)⟩
  | 4 => ⟨S256x2048, .i8, sCsM.slice g0 (fun _ => rfl), sCrM.slice g0 (fun _ => rfl)⟩
  | 5 => ⟨S512x2048, .i8, sCsM.slice g1 (fun _ => rfl), sCrM.slice g1 (fun _ => rfl)⟩
  | 6 => ⟨S256x2048, .i8, sCsM.slice g2 (fun _ => rfl), sCrM.slice g2 (fun _ => rfl)⟩
  | 7 => ⟨S1x8x128, .f32, zsM.slice z0 (fun _ => rfl), zrM.slice z0 (fun _ => rfl)⟩
  | 8 => ⟨S1x8x128, .f32, zsM.slice z1 (fun _ => rfl), zrM.slice z1 (fun _ => rfl)⟩
  | 9 => ⟨S1x8x128, .f32, zsM.slice z2 (fun _ => rfl), zrM.slice z2 (fun _ => rfl)⟩
  | 10 => ⟨S1x8x128, .f32, zsM.slice z3 (fun _ => rfl), zrM.slice z3 (fun _ => rfl)⟩
  | 11 => ⟨S1x8x128, .f32, zsM.slice z4 (fun _ => rfl), zrM.slice z4 (fun _ => rfl)⟩
  | 12 => ⟨S1x8x128, .f32, zsM.slice z5 (fun _ => rfl), zrM.slice z5 (fun _ => rfl)⟩
  | 13 => ⟨S1x8x128, .f32, zsM.slice z6 (fun _ => rfl), zrM.slice z6 (fun _ => rfl)⟩

/-- What a transfer on channel `i` raises its two cells by. -/
abbrev amt (i : Fin 14) : ℕ := (chan i).dst.view.dmaCredit
theorem amt_pos (i : Fin 14) : 0 < amt i := View.dmaCredit_pos _ (by fin_cases i <;> decide)

/-- The pieces of the result, by row group, and of the accumulator they are copied from. -/
structure Copy where
  s : Shape
  src : Memref sig .tc .vmem s .f32
  dst : Memref sig .tc .hbm s .f32
abbrev copy : Fin 3 → Copy := fun
  | 0 => ⟨S256x2048, accM.slice g0 (fun _ => rfl), outM.slice g0 (fun _ => rfl)⟩
  | 1 => ⟨S512x2048, accM.slice g1 (fun _ => rfl), outM.slice g1 (fun _ => rfl)⟩
  | 2 => ⟨S256x2048, accM.slice g2 (fun _ => rfl), outM.slice g2 (fun _ => rfl)⟩
abbrev camt (k : Fin 3) : ℕ := (copy k).dst.view.dmaCredit
theorem camt_pos (k : Fin 3) : 0 < camt k := View.dmaCredit_pos _ (by fin_cases k <;> decide)

/-! ## The cells -/

abbrev barS : Sem sig := (SemArray.scalar (sig.barrier 0 rfl) : Sems sig S_).sem
set_option backward.proofsInPublic true in
abbrev sendS (i : Fin 14) : DmaSem sig := ⟨4 + i.val, by change _ < 35; omega⟩
set_option backward.proofsInPublic true in
abbrev recvS (i : Fin 14) : DmaSem sig := ⟨18 + i.val, by change _ < 35; omega⟩
set_option backward.proofsInPublic true in
abbrev copyS (k : Fin 3) : DmaSem sig := ⟨32 + k.val, by change _ < 35; omega⟩

abbrev barCell (c : Dev nD) : GSem nD τ sig := ((c : Thread nD τ), .reg barS)
abbrev sendCell (c : Dev nD) (i : Fin 14) : GSem nD τ sig := ((c : Thread nD τ), .dma (sendS i))
abbrev recvCell (c : Dev nD) (i : Fin 14) : GSem nD τ sig := ((c : Thread nD τ), .dma (recvS i))
abbrev copyCell (c : Dev nD) (k : Fin 3) : GSem nD τ sig := ((c : Thread nD τ), .dma (copyS k))

/-- What a DMA semaphore is for. -/
inductive Role where
  | stage
  | send (i : Fin 14)
  | recv (i : Fin 14)
  | copy (k : Fin 3)
  deriving DecidableEq

set_option backward.proofsInPublic true in
def role (q : DmaSem sig) : Role :=
  if h : q.val < 4 then .stage
  else if h : q.val < 18 then .send ⟨q.val - 4, by omega⟩
  else if h : q.val < 32 then .recv ⟨q.val - 18, by omega⟩
  else .copy ⟨q.val - 32, by have := q.isLt; change q.val < 35 at this; omega⟩

theorem role_send (i : Fin 14) : role (sendS i) = .send i := by revert i; decide
theorem role_recv (i : Fin 14) : role (recvS i) = .recv i := by revert i; decide
theorem role_copy (k : Fin 3) : role (copyS k) = .copy k := by revert k; decide

/-! ## The values -/

section Values

variable (Xs : Dev nD → Vec F S4096x1024 .fp8e5m2) (Ws : Dev nD → Vec F S1024x2048 .fp8e5m2)
variable (As Bs : Dev nD → Vec F S1 .f32)

/-- The first element of a slab. -/
def slabIdx : S1x8x128.Idx := fun a => ⟨0, by revert a; decide⟩
def hd (z : Vec F S1x8x128 .f32) : Vec F S1x1x1 .f32 := fun _ => z slabIdx

def w5 (c : Dev nD) : Vec F S1024x2048 .fp8e5m2 := fun j => Ws c (gA.emb j)
abbrev w6 (c : Dev nD) : FVec F S1024x2048 .fp8e5m2 := k0_pay1 (w5 Ws c)

/-- The rows of `x` device `c` multiplies for each piece of work. -/
def xA0 (c : Dev nD) : Vec F S256x1024 .fp8e5m2 := fun j => Xs c ((Rect.unit (s := S4096x1024) (k0_off1 c 0#32) S256x1024.size (k0_off1_inb c 0)).emb j)
def xA1 (c : Dev nD) : Vec F S512x1024 .fp8e5m2 := fun j => Xs c ((Rect.unit (s := S4096x1024) (k0_off2 c) S512x1024.size (k0_off2_inb c)).emb j)
def xA2 (c : Dev nD) : Vec F S256x1024 .fp8e5m2 := fun j => Xs c ((Rect.unit (s := S4096x1024) (k0_off1 c 768#32) S256x1024.size (k0_off1_inb c 1)).emb j)
def xB (c : Dev nD) : Vec F S1024x1024 .fp8e5m2 := fun j => Xs c ((Rect.unit (s := S4096x1024) (k0_off3 c) S1024x1024.size (k0_off3_inb c)).emb j)
def xF0 (c : Dev nD) : Vec F S256x1024 .fp8e5m2 := fun j => Xs c ((Rect.unit (s := S4096x1024) (k0_off4 c 0#32) S256x1024.size (k0_off4_inb c 0)).emb j)
def xF1 (c : Dev nD) : Vec F S512x1024 .fp8e5m2 := fun j => Xs c ((Rect.unit (s := S4096x1024) (k0_off5 c) S512x1024.size (k0_off5_inb c)).emb j)
def xF2 (c : Dev nD) : Vec F S256x1024 .fp8e5m2 := fun j => Xs c ((Rect.unit (s := S4096x1024) (k0_off4 c 768#32) S256x1024.size (k0_off4_inb c 1)).emb j)
def xO (c : Dev nD) : Vec F S1024x1024 .fp8e5m2 := fun j => Xs c ((Rect.unit (s := S4096x1024) (k0_off6 c) S1024x1024.size (k0_off6_inb c)).emb j)

/-- The blocks and scales sent to `p1`. -/
def dA0 (c : Dev nD) : IVec S256x2048 8 := k0_pay4 (w5 Ws c) (xA0 Xs c)
def zA0 (c : Dev nD) : FVec F S1x8x128 .f32 := k0_pay6 (k0_pay5 (w5 Ws c) (xA0 Xs c))
def dA1 (c : Dev nD) : IVec S512x2048 8 := k0_pay9 (w6 Ws c) (xA1 Xs c)
def zA1 (c : Dev nD) : FVec F S1x8x128 .f32 := k0_pay10 (w6 Ws c) (xA1 Xs c)
def dA2 (c : Dev nD) : IVec S256x2048 8 := k0_pay13 (w6 Ws c) (xA2 Xs c)
def zA2 (c : Dev nD) : FVec F S1x8x128 .f32 := k0_pay14 (w6 Ws c) (xA2 Xs c)
def dB (c : Dev nD) : IVec S1024x2048 8 := k0_pay19 (k0_pay17 (w6 Ws c) (xB Xs c)) k0_pay18
def zB (c : Dev nD) : FVec F S1x8x128 .f32 := k0_pay20 (k0_pay16 (w6 Ws c) (xB Xs c))

/-- What device `c` computes itself for the partner of its partner. -/
def f0 (c : Dev nD) : FVec F S256x2048 .f32 := k0_pay22 (w6 Ws c) (k0_pay21 (xF0 Xs c))
def f1 (c : Dev nD) : FVec F S512x2048 .f32 := k0_pay27 (w6 Ws c) (xF1 Xs c)
def f2 (c : Dev nD) : FVec F S256x2048 .f32 := k0_pay32 (w6 Ws c) (xF2 Xs c)

/-- The blocks and scales sent to `p2`: what `c` computed with what `p1 c` sent added, compressed again. -/
def dC0 (c : Dev nD) : IVec S256x2048 8 := k0_pay25 (f0 Xs Ws c) (dA0 Xs Ws (p1 c)) (hd (zA0 Xs Ws (p1 c)))
def zC0 (c : Dev nD) : FVec F S1x8x128 .f32 := k0_pay26 (f0 Xs Ws c) (dA0 Xs Ws (p1 c)) (hd (zA0 Xs Ws (p1 c)))
def t1 (c : Dev nD) : FVec F S512x2048 .f32 := k0_pay28 (f1 Xs Ws c) (dA1 Xs Ws (p1 c)) (hd (zA1 Xs Ws (p1 c)))
def dC1 (c : Dev nD) : IVec S512x2048 8 := k0_pay30 (t1 Xs Ws c)
def zC1 (c : Dev nD) : FVec F S1x8x128 .f32 := k0_pay31 (t1 Xs Ws c)
def dC2 (c : Dev nD) : IVec S256x2048 8 := k0_pay36 (k0_pay35 (f2 Xs Ws c) (dA2 Xs Ws (p1 c)) (hd (zA2 Xs Ws (p1 c))))
def zC2 (c : Dev nD) : FVec F S1x8x128 .f32 := k0_pay37 (k0_pay34 (f2 Xs Ws c) (dA2 Xs Ws (p1 c)) (hd (zA2 Xs Ws (p1 c))))

/-- The accumulator: `c`'s own product, then with what `p1 c` sent on channel 3 added. -/
def acc0 (c : Dev nD) : FVec F S1024x2048 .f32 := k0_pay39 (k0_pay38 (w6 Ws c) (xO Xs c))
def acc1 (c : Dev nD) : FVec F S1024x2048 .f32 := k0_pay40 (acc0 Xs Ws c) (dB Xs Ws (p1 c)) (hd (zB Xs Ws (p1 c)))

abbrev scl (c : Dev nD) : F .f32 := k0_pay41 (As c (Shape.Idx.first (s := S1) (by decide))) (Bs c (Shape.Idx.first (s := S1) (by decide)))

/-- The three row groups of device `c`'s result. -/
def out0 (c : Dev nD) : FVec F S256x2048 .f32 :=
  k0_pay42 (scl As Bs c) (fun j => acc1 Xs Ws c (g0.emb j)) (dC0 Xs Ws (p2 c)) (hd (zC0 Xs Ws (p2 c)))
def out1 (c : Dev nD) : FVec F S512x2048 .f32 :=
  k0_pay43 (scl As Bs c) (fun j => acc1 Xs Ws c (g1.emb j)) (dC1 Xs Ws (p2 c)) (hd (zC1 Xs Ws (p2 c)))
def out2 (c : Dev nD) : FVec F S256x2048 .f32 :=
  k0_pay44 (scl As Bs c) (fun j => acc1 Xs Ws c (g2.emb j)) (dC2 Xs Ws (p2 c)) (hd (zC2 Xs Ws (p2 c)))

/-- What device `c` sends on channel `i`. -/
abbrev sent (c : Dev nD) : (i : Fin 14) → (chan i).s.Idx → Elt F (chan i).e := fun
  | 0 => dA0 Xs Ws c | 1 => dA1 Xs Ws c | 2 => dA2 Xs Ws c | 3 => dB Xs Ws c
  | 4 => dC0 Xs Ws c | 5 => dC1 Xs Ws c | 6 => dC2 Xs Ws c
  | 7 => zA0 Xs Ws c | 8 => zA1 Xs Ws c | 9 => zA2 Xs Ws c | 10 => zB Xs Ws c
  | 11 => zC0 Xs Ws c | 12 => zC1 Xs Ws c | 13 => zC2 Xs Ws c

/-- Row group `k` of device `c`'s result. -/
abbrev outP (c : Dev nD) : (k : Fin 3) → (copy k).s.Idx → Elt F .f32 := fun
  | 0 => out0 Xs Ws As Bs c | 1 => out1 Xs Ws As Bs c | 2 => out2 Xs Ws As Bs c

end Values

/-! ## The schedule -/

/-- Device `c` owns `m` and it reads `v`; -/
abbrev Own (c : Dev nD) {sp : Space} {s : Shape} {e : EltTy} (m : Memref sig .tc sp s e) (v : s.Idx → Elt F e) : sProp 𝕄 :=
  owns (c : Thread nD τ) m fullShare v
/-- it owns `m`, reading anything. -/
abbrev Any (c : Dev nD) {sp : Space} {s : Shape} {e : EltTy} (m : Memref sig .tc sp s e) : sProp 𝕄 :=
  ownsSat (c : Thread nD τ) m fullShare (fun _ => True)

section Sched

variable (Xs : Dev nD → Vec F S4096x1024 .fp8e5m2) (Ws : Dev nD → Vec F S1024x2048 .fp8e5m2)
variable (As Bs : Dev nD → Vec F S1 .f32)

/-- Where channel `i` of the device's partner lands on `d`. -/
abbrev Landing (d : Dev nD) (i : Fin 14) : sProp 𝕄 := Any (F := F) d (chan i).dst

/-- What `p1 c`'s signal hands `c`: the landing places, on `p1 c`, of the channels `c` sends to it; -/
def barPay1 (c : Dev nD) : sProp 𝕄 :=
  iprop(Landing (F := F) (p1 c) 0 ∗ Landing (F := F) (p1 c) 7 ∗ Landing (F := F) (p1 c) 1 ∗ Landing (F := F) (p1 c) 8
    ∗ Landing (F := F) (p1 c) 2 ∗ Landing (F := F) (p1 c) 9 ∗ Landing (F := F) (p1 c) 3 ∗ Landing (F := F) (p1 c) 10)
/-- and `p2 c`'s. -/
def barPay2 (c : Dev nD) : sProp 𝕄 :=
  iprop(Landing (F := F) (p2 c) 4 ∗ Landing (F := F) (p2 c) 11 ∗ Landing (F := F) (p2 c) 5 ∗ Landing (F := F) (p2 c) 12
    ∗ Landing (F := F) (p2 c) 6 ∗ Landing (F := F) (p2 c) 13)
/-- A landed transfer: the landing place holding what the partner sent. -/
def recvPay (c : Dev nD) (i : Fin 14) : sProp 𝕄 := Own c (chan i).dst (sent Xs Ws (peer c i) i)
/-- A finished send: the source back. -/
def sendPay (c : Dev nD) (i : Fin 14) : sProp 𝕄 := Any (F := F) c (chan i).src
/-- A finished copy of the result: the row group of the result and the accumulator's back. -/
def copyPay (c : Dev nD) (k : Fin 3) : sProp 𝕄 := iprop(Own c (copy k).dst (outP Xs Ws As Bs c k) ∗ Any (F := F) c (copy k).src)

/-- What one cell's one round delivers. -/
def pay (c : Dev nD) : SemLoc sig → Bool → sProp 𝕄
  | .reg _, d => if d then barPay2 c else barPay1 c
  | .dma q, _ => match role q with
    | .stage => iprop(emp)
    | .send i => sendPay c i
    | .recv i => recvPay Xs Ws c i
    | .copy k => copyPay Xs Ws As Bs c k
def need : SemLoc sig → ℕ
  | .reg _ => 1
  | .dma q => match role q with
    | .stage => 1
    | .send i => amt i
    | .recv i => amt i
    | .copy k => camt k
def duty : SemLoc sig → Finset Bool
  | .reg _ => Finset.univ
  | .dma q => if role q = .stage then ∅ else {false}

/-- One round, round 0: a barrier cell has the duties `false` (paid by `p1`) and `true` (paid by `p2`) of one unit each,
    every transfer's or copy's cell the duty `false`. -/
def Rd : Rounds.Schedule (GSem nD τ sig) Bool 𝕄 where
  duties g r := if r = 0 ∧ g.1.2 = .tc then duty g.2 else ∅
  unitless _ := False
  amount g _ _ := need g.2
  payload g _ d := pay Xs Ws As Bs g.1.1 g.2 d
  amount_pos g _ _ _ := by
    rcases g.2 with _ | q
    · exact Nat.one_pos
    · show 0 < need (.dma q)
      unfold need; dsimp only
      rcases role q with _ | i | i | k
      · exact Nat.one_pos
      · exact amt_pos i
      · exact amt_pos i
      · exact camt_pos k

instance pay_storable (c : Dev nD) (s : SemLoc sig) (d : Bool) : BI.Storable (upEmb : UEmb _ 𝕄) (pay Xs Ws As Bs c s d) := by
  unfold pay sendPay recvPay copyPay barPay1 barPay2
  rcases s with _ | q
  · dsimp only
    split <;> infer_instance
  · dsimp only
    rcases role q with _ | i | i | k <;> dsimp only <;> infer_instance

instance Rd_payload_storable (g : GSem nD τ sig) (r : ℕ) (d : Bool) :
    BI.Storable (upEmb : UEmb _ 𝕄) ((Rd (F := F) Xs Ws As Bs).payload g r d) := pay_storable Xs Ws As Bs g.1.1 g.2 d

theorem duties_later (g : GSem nD τ sig) : ∀ r, 1 ≤ r → (Rd (F := F) Xs Ws As Bs).duties g r = ∅ :=
  fun r hr => by dsimp only [Rd]; exact if_neg fun h => by omega

theorem duties_bar (c : Dev nD) : (Rd (F := F) Xs Ws As Bs).duties (barCell c) 0 = Finset.univ := by
  dsimp only [Rd]; exact if_pos ⟨rfl, rfl⟩
theorem duties_send (c : Dev nD) (i : Fin 14) : (Rd (F := F) Xs Ws As Bs).duties (sendCell c i) 0 = {false} := by
  dsimp only [Rd]; rw [if_pos ⟨rfl, rfl⟩]; exact if_neg (by rw [role_send]; exact fun h => by cases h)
theorem duties_recv (c : Dev nD) (i : Fin 14) : (Rd (F := F) Xs Ws As Bs).duties (recvCell c i) 0 = {false} := by
  dsimp only [Rd]; rw [if_pos ⟨rfl, rfl⟩]; exact if_neg (by rw [role_recv]; exact fun h => by cases h)
theorem duties_copy (c : Dev nD) (k : Fin 3) : (Rd (F := F) Xs Ws As Bs).duties (copyCell c k) 0 = {false} := by
  dsimp only [Rd]; rw [if_pos ⟨rfl, rfl⟩]; exact if_neg (by rw [role_copy]; exact fun h => by cases h)

theorem need_send (i : Fin 14) : need (.dma (sendS i)) = amt i := by unfold need; simp only [role_send]
theorem need_recv (i : Fin 14) : need (.dma (recvS i)) = amt i := by unfold need; simp only [role_recv]
theorem need_copy (k : Fin 3) : need (.dma (copyS k)) = camt k := by unfold need; simp only [role_copy]

theorem expect_bar (c : Dev nD) : (Rd (F := F) Xs Ws As Bs).expect (barCell c) 0 = 2 := by
  unfold Schedule.expect Schedule.amountOf; rw [duties_bar]; rfl
theorem expect_send (c : Dev nD) (i : Fin 14) : (Rd (F := F) Xs Ws As Bs).expect (sendCell c i) 0 = amt i := by
  unfold Schedule.expect Schedule.amountOf; rw [duties_send, Finset.sum_singleton]; exact need_send i
theorem expect_recv (c : Dev nD) (i : Fin 14) : (Rd (F := F) Xs Ws As Bs).expect (recvCell c i) 0 = amt i := by
  unfold Schedule.expect Schedule.amountOf; rw [duties_recv, Finset.sum_singleton]; exact need_recv i
theorem expect_copy (c : Dev nD) (k : Fin 3) : (Rd (F := F) Xs Ws As Bs).expect (copyCell c k) 0 = camt k := by
  unfold Schedule.expect Schedule.amountOf; rw [duties_copy, Finset.sum_singleton]; exact need_copy k

theorem payload_send (c : Dev nD) (i : Fin 14) (d : Bool) : (Rd (F := F) Xs Ws As Bs).payload (sendCell c i) 0 d = sendPay c i := by
  show pay Xs Ws As Bs c (.dma (sendS i)) d = _; unfold pay; simp only [role_send]
theorem payload_recv (c : Dev nD) (i : Fin 14) (d : Bool) : (Rd (F := F) Xs Ws As Bs).payload (recvCell c i) 0 d = recvPay Xs Ws c i := by
  show pay Xs Ws As Bs c (.dma (recvS i)) d = _; unfold pay; simp only [role_recv]
theorem payload_copy (c : Dev nD) (k : Fin 3) (d : Bool) : (Rd (F := F) Xs Ws As Bs).payload (copyCell c k) 0 d = copyPay Xs Ws As Bs c k := by
  show pay Xs Ws As Bs c (.dma (copyS k)) d = _; unfold pay; simp only [role_copy]

theorem rest_bar (c : Dev nD) : bigSep ((Rd (F := F) Xs Ws As Bs).duties (barCell c) 0 \ ∅) (fun d => (Rd (F := F) Xs Ws As Bs).payload (barCell c) 0 d)
    = iprop(barPay1 c ∗ barPay2 c) := by
  rw [Finset.sdiff_empty, duties_bar, bigSep_univ_eq_bigSepL [false, true] (by decide) (by decide)]; rfl
theorem rest_send (c : Dev nD) (i : Fin 14) : bigSep ((Rd (F := F) Xs Ws As Bs).duties (sendCell c i) 0 \ ∅)
    (fun d => (Rd (F := F) Xs Ws As Bs).payload (sendCell c i) 0 d) = sendPay c i := by
  rw [Finset.sdiff_empty, duties_send, bigSep_singleton, payload_send]
theorem rest_recv (c : Dev nD) (i : Fin 14) : bigSep ((Rd (F := F) Xs Ws As Bs).duties (recvCell c i) 0 \ ∅)
    (fun d => (Rd (F := F) Xs Ws As Bs).payload (recvCell c i) 0 d) = recvPay Xs Ws c i := by
  rw [Finset.sdiff_empty, duties_recv, bigSep_singleton, payload_recv]
theorem rest_copy (c : Dev nD) (k : Fin 3) : bigSep ((Rd (F := F) Xs Ws As Bs).duties (copyCell c k) 0 \ ∅)
    (fun d => (Rd (F := F) Xs Ws As Bs).payload (copyCell c k) 0 d) = copyPay Xs Ws As Bs c k := by
  rw [Finset.sdiff_empty, duties_copy, bigSep_singleton, payload_copy]

end Sched

/-! ## What each core owes; the levels -/

/-- What `c` owes with the transfers `l` still to start, the next one first. -/
def owed (c : Dev nD) : List (Fin 14) → CellTallies nD τ sig Unit
  | [] => 0
  | i :: l => owed c l + tallyAt (recvCell (peer c i) i) () (amt i)

/-- The channels in the order the kernel starts them. -/
abbrev order : List (Fin 14) := [0, 7, 1, 8, 2, 9, 3, 10, 4, 11, 5, 12, 6, 13]

def O₁ (c : Dev nD) : CellTallies nD τ sig Unit := owed c order + tallyAt (barCell (p2 c)) () 1
def O₀ (c : Dev nD) : CellTallies nD τ sig Unit := O₁ c + tallyAt (barCell (p1 c)) () 1

def L (g : GSem nD τ sig) : Finset Unit := if g.1.2 = .tc then {()} else ∅
/-- The level of a channel's receive cell: those of the second hop above those of the first. -/
def clev (i : Fin 14) : ℕ := if i.val % 7 < 4 then 2 else 3
/-- Staging, send and copy cells at 0, barrier cells at 1, receive cells at 2 and 3. -/
def lvS : SemLoc sig → ℕ
  | .reg _ => 1
  | .dma q => match role q with
    | .recv i => clev i
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_send (i : Fin 14) : lvS (.dma (sendS i)) = 0 := by unfold lvS; simp only [role_send]
theorem lv_recv (i : Fin 14) : lvS (.dma (recvS i)) = clev i := by unfold lvS; simp only [role_recv]
theorem lv_copy (k : Fin 3) : lvS (.dma (copyS k)) = 0 := by unfold lvS; simp only [role_copy]

theorem owed_pos {c : Dev nD} : ∀ {l : List (Fin 14)} {g : GSem nD τ sig} {u : Unit}, 0 < owed c l g u → ∃ i ∈ l, g = recvCell (peer c i) i
  | [], g, u, h => absurd h (Nat.lt_irrefl 0)
  | i :: l, g, u, h => by
    unfold owed at h
    rw [Pi.add_apply, Finsupp.add_apply, tallyAt_apply] at h
    by_cases hg : g = recvCell (peer c i) i ∧ u = ()
    · exact ⟨i, List.mem_cons_self, hg.1⟩
    · rw [if_neg hg, Nat.add_zero] at h
      obtain ⟨j, hj, e⟩ := owed_pos h
      exact ⟨j, List.mem_cons_of_mem _ hj, e⟩

omit [FloatOps F] in
/-- A wait below every transfer still to start. -/
theorem mayWait_owed (c : Dev nD) (sm : SemLoc sig) (l : List (Fin 14)) (h : ∀ i ∈ l, lvS sm < clev i) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_refl _)
    (fun g u hg => by
      obtain ⟨i, hi, rfl⟩ := owed_pos hg
      show lvS sm < lvS (.dma (recvS i))
      rw [lv_recv]; exact h i hi)

theorem O₀_pos {c : Dev nD} {g : GSem nD τ sig} {u : Unit} (h : 0 < O₀ c g u) :
    (∃ i, g = recvCell (peer c i) i) ∨ ∃ d, g = barCell d := by
  unfold O₀ O₁ at h
  rw [Pi.add_apply, Finsupp.add_apply, Pi.add_apply, Finsupp.add_apply, tallyAt_apply, tallyAt_apply] at h
  by_cases h1 : g = barCell (p1 c) ∧ u = ()
  · exact .inr ⟨_, h1.1⟩
  by_cases h2 : g = barCell (p2 c) ∧ u = ()
  · exact .inr ⟨_, h2.1⟩
  rw [if_neg h1, if_neg h2, Nat.add_zero] at h
  obtain ⟨i, -, e⟩ := owed_pos h
  exact .inl ⟨i, e⟩

omit [FloatOps F] in
/-- A wait on a cell of level 0 is below all that is owed at launch, and below nothing owed. -/
theorem mayWait_stage (c : Dev nD) (sm : SemLoc sig) (hs : lvS sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨d, rfl⟩ <;> exact Finset.mem_singleton_self _)
      (fun p hp => by rw [Finset.mem_singleton.mp hp]; exact le_of_eq hs)
      (fun g u hg => by
        rcases O₀_pos hg with ⟨i, rfl⟩ | ⟨d, rfl⟩
        · show 0 < lvS (.dma (recvS i)); rw [lv_recv]; unfold clev; split <;> decide
        · exact Nat.one_pos)
  · rw [MayWait_zero]; iintro -; iempintro

end Cert.Exchange

end
-- ==== Proof.Steps.lean ====
/-
# One rule per kind of effect of the body

Each rule takes what the effect needs of one channel, buffer piece or semaphore and hands back what is left: starting a
transfer, waiting for its send cell or its receive cell, copying a row group of the result out, loads and stores of held pieces.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def 𝒱₀ : Variants := Variants.none

/-- The body's weakest precondition at device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (Xs : Dev nD → Vec F S4096x1024 .fp8e5m2) (Ws : Dev nD → Vec F S1024x2048 .fp8e5m2)
variable (As Bs : Dev nD → Vec F S1 .f32)

abbrev RD : Rounds.Schedule (GSem nD τ sig) Bool 𝕄 := Rd Xs Ws As Bs

/-- The cell `g` is at its invariant, under some name. -/
abbrev Cell (g : GSem nD τ sig) : sProp 𝕄 := iprop(∃ κ, cellInv ER (RD Xs Ws As Bs) κ g)
/-- The waits already made do not matter. -/
abbrev Owing (c : Dev nD) (O : CellTallies nD τ sig Unit) : sProp 𝕄 := iprop(∃ W, owes (c : Thread nD τ) O W)

/-- All `c` needs to start its transfer on channel `i`, -/
def Ready (c : Dev nD) (i : Fin 14) : sProp 𝕄 :=
  iprop(Cell Xs Ws As Bs (sendCell c i) ∗ Cell Xs Ws As Bs (recvCell (peer c i) i) ∗ reached ER (sendCell c i) 0
    ∗ reached ER (recvCell (peer c i) i) 0 ∗ dutyTok ER (sendCell c i) 0 false ∗ dutyTok ER (recvCell (peer c i) i) 0 false
    ∗ atPos ER (sendCell c i) 0 ∅ 0)
/-- to wait that it is sent, -/
def Sent (c : Dev nD) (i : Fin 14) : sProp 𝕄 :=
  iprop(Cell Xs Ws As Bs (sendCell c i) ∗ atPos ER (sendCell c i) 0 ∅ 0 ∗ cred (tallyAt (sendCell c i) () (amt i)))
/-- and to wait for its partner's. -/
def Due (c : Dev nD) (i : Fin 14) : sProp 𝕄 :=
  iprop(Cell Xs Ws As Bs (recvCell c i) ∗ atPos ER (recvCell c i) 0 ∅ 0 ∗ cred (tallyAt (recvCell c i) () (amt i)))
/-- The same for the copies of the result. -/
def CopyReady (c : Dev nD) (k : Fin 3) : sProp 𝕄 :=
  iprop(Cell Xs Ws As Bs (copyCell c k) ∗ reached ER (copyCell c k) 0 ∗ dutyTok ER (copyCell c k) 0 false ∗ atPos ER (copyCell c k) 0 ∅ 0)
def Copying (c : Dev nD) (k : Fin 3) : sProp 𝕄 :=
  iprop(Cell Xs Ws As Bs (copyCell c k) ∗ atPos ER (copyCell c k) 0 ∅ 0 ∗ cred (tallyAt (copyCell c k) () (camt k)))

/-- The level evidence. -/
abbrev Lev : sProp 𝕄 := levAts L lv

/-- What channel `i` is, by its memrefs and the values it carries. -/
structure IsChan (i : Fin 14) {s : Shape} {e : EltTy} (src dst : Memref sig .tc .vmem s e) (v : Dev nD → s.Idx → Elt F e) : Prop where
  send : ∀ c, sendPay (F := F) c i = Any c src
  recv : ∀ c, recvPay Xs Ws c i = Own c dst (v (peer c i))
  samt : src.view.dmaCredit = amt i
  damt : dst.view.dmaCredit = amt i

/-- What copy `k` is. -/
structure IsCopy (k : Fin 3) {s : Shape} (src : Memref sig .tc .vmem s .f32) (dst : Memref sig .tc .hbm s .f32) (v : Dev nD → s.Idx → Elt F .f32) : Prop where
  pay : ∀ c, copyPay Xs Ws As Bs c k = iprop(Own c dst (v c) ∗ Any c src)
  damt : dst.view.dmaCredit = camt k

variable {Xs Ws As Bs}
variable {s : Shape} {e : EltTy}

/-- START a transfer. -/
theorem send_step {i : Fin 14} {src dst : Memref sig .tc .vmem s e} {v : Dev nD → s.Idx → Elt F e} (h : IsChan Xs Ws i src dst v)
    (c : Dev nD) (l : List (Fin 14)) {n : Dev nD} (hn : n = peer c i) {sS sR : DmaSem sig} (hS : sS = sendS i) (hR : sR = recvS i)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {k : PUnit → Prog (TpuEff nD τ sig (Elt F) Λ₀ .tc) α} {Q : α → sProp 𝕄} :
    iprop(Ready Xs Ws As Bs c i ∗ Own c src (v c) ∗ Any (F := F) (peer c i) dst ∗ Owing c (owed c (i :: l)))
      ⊢ iprop(((Sent Xs Ws As Bs c i ∗ Owing c (owed c l)) -∗ WP c (k ⟨⟩) Q)
          -∗ WP c (.op (.enqueueDma src (.remote (Dev.tc n : Thread nD τ) dst (.dma sS) hsc) (.dma sR) hsrc hdst hsem) k) Q) := by
  subst hn; subst hS; subst hR
  unfold Ready Sent
  simp only [ownsSat, owns]
  iintro ⟨⟨⟨%κ₁, #HI1⟩, ⟨%κ₂, #HI2⟩, #Hr1, #Hr2, Ht1, Ht2, Hat⟩, ⟨%fs, %hfs, Hs⟩, ⟨%fd, -, Hd⟩, ⟨%W, HO⟩⟩ Hk
  iapply (Rounds.wp_send_pointsTo 𝒱₀ ER (RD Xs Ws As Bs) (c : Thread nD τ) none (κ₁ := κ₁) (κ₂ := κ₂)
    (c' := (peer c i : Thread nD τ)) (src := src) (dst := dst) (sS := .dma (sendS i)) (sem := .dma (recvS i)) (r₁ := 0) (r₂ := 0) (d₁ := false) (d₂ := false) (fs := fs) (fd := fd)
    (by rw [duties_send]; exact Finset.mem_singleton_self _) (by rw [duties_recv]; exact Finset.mem_singleton_self _)
    () () (amt i) h.damt (need_send i) (need_recv i) (owed c l) rfl (W := W)
    (by rw [payload_send, h.send]; exact ownsSat_of (c : Thread nD τ) src fullShare trivial)
    (by
      rw [payload_recv, h.recv, peer_peer, ← hfs]
      refine (owns_intro (peer c i : Thread nD τ) dst fullShare _).trans (Entails.of_eq ?_)
      rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitr; · iexists κ₁; iexact HI1
    isplitl [Hat]; · iexact Hat
    iexact Hc
  iexists W; iexact HO

/-- Wait that a transfer is SENT: the source back, its cell closed. -/
theorem wait_send_step {i : Fin 14} {src dst : Memref sig .tc .vmem s e} {v : Dev nD → s.Idx → Elt F e} (h : IsChan Xs Ws i src dst v)
    (c : Dev nD) (l : List (Fin 14)) {sS : DmaSem sig} (hS : sS = sendS i)
    {hsrc : dst.view.WordExact} {hdst : src.view.WordExact}
    {α : Type} {k : PUnit → Prog (TpuEff nD τ sig (Elt F) Λ₀ .tc) α} {Q : α → sProp 𝕄} :
    iprop(Sent Xs Ws As Bs c i ∗ Lev ∗ Owing c (owed c l))
      ⊢ iprop(((semVal (sendCell c i) 0 ∗ Any (F := F) c src ∗ Owing c (owed c l)) -∗ WP c (k ⟨⟩) Q)
          -∗ WP c (.op (.waitDma2 sS dst src hsrc hdst) k) Q) := by
  subst hS
  unfold Sent
  iintro ⟨⟨⟨%κ, #HI⟩, Hat, Hc⟩, #Hlev, ⟨%W, HO⟩⟩ Hk
  rw [← h.samt]
  iapply (Rounds.wp_wait_rest_token 𝒱₀ ER (RD Xs Ws As Bs) (c : Thread nD τ) none (κ := κ)
      (wpE_waitDma2_eq 𝒱₀ (c : Thread nD τ) none Set.univ) (Set.mem_univ _) () (O := owed c l) (W := W) (R := 0) (m := 0) (T := ∅)
      (by rw [Nat.zero_add, expect_send, h.samt])) $$ [Hc HO Hat]
  · isplitr; · iexact HI
    isplitl [Hc]; · iexact Hc
    isplitl [HO]; · iexact HO
    isplitr
    · iapply (mayWait_owed c (.dma (sendS i)) l (fun j _ => by rw [lv_send]; unfold clev; split <;> decide)); iexact Hlev
    iexact Hat
  iintro ⟨HO, Hat, -, Hpay⟩
  ihave Hp := (Entails.of_eq ((rest_send Xs Ws As Bs c i).trans (h.send c))) $$ Hpay
  imod (Rounds.cell_close ER (RD Xs Ws As Bs) (Set.mem_univ κ) (fun h => h) (R := 0 + 1) (duties_later Xs Ws As Bs (sendCell c i))) $$ [Hat] with Hz
  · isplitr; · iexact HI
    iexact Hat
  iapply Hk
  isplitl [Hz]; · iexact Hz
  isplitl [Hp]; · iexact Hp
  iexists _; iexact HO

/-- Wait for the partner's transfer to LAND: the landing place holding what the partner sent, its cell closed. -/
theorem wait_recv_step {i : Fin 14} {src dst : Memref sig .tc .vmem s e} {v : Dev nD → s.Idx → Elt F e} (h : IsChan Xs Ws i src dst v)
    (c : Dev nD) (l : List (Fin 14)) (hl : ∀ j ∈ l, clev i < clev j) {sR : DmaSem sig} (hR : sR = recvS i)
    {hsrc : src.view.WordExact} {hdst : dst.view.WordExact}
    {α : Type} {k : PUnit → Prog (TpuEff nD τ sig (Elt F) Λ₀ .tc) α} {Q : α → sProp 𝕄} :
    iprop(Due Xs Ws As Bs c i ∗ Lev ∗ Owing c (owed c l))
      ⊢ iprop(((semVal (recvCell c i) 0 ∗ Own c dst (v (peer c i)) ∗ Owing c (owed c l)) -∗ WP c (k ⟨⟩) Q)
          -∗ WP c (.op (.waitDma2 sR src dst hsrc hdst) k) Q) := by
  subst hR
  unfold Due
  iintro ⟨⟨⟨%κ, #HI⟩, Hat, Hc⟩, #Hlev, ⟨%W, HO⟩⟩ Hk
  rw [← h.damt]
  iapply (Rounds.wp_wait_rest_token 𝒱₀ ER (RD Xs Ws As Bs) (c : Thread nD τ) none (κ := κ)
      (wpE_waitDma2_eq 𝒱₀ (c : Thread nD τ) none Set.univ) (Set.mem_univ _) () (O := owed c l) (W := W) (R := 0) (m := 0) (T := ∅)
      (by rw [Nat.zero_add, expect_recv, h.damt])) $$ [Hc HO Hat]
  · isplitr; · iexact HI
    isplitl [Hc]; · iexact Hc
    isplitl [HO]; · iexact HO
    isplitr
    · iapply (mayWait_owed c (.dma (recvS i)) l (fun j hj => by rw [lv_recv]; exact hl j hj)); iexact Hlev
    iexact Hat
  iintro ⟨HO, Hat, -, Hpay⟩
  ihave Hp := (Entails.of_eq ((rest_recv Xs Ws As Bs c i).trans (h.recv c))) $$ Hpay
  imod (Rounds.cell_close ER (RD Xs Ws As Bs) (Set.mem_univ κ) (fun h => h) (R := 0 + 1) (duties_later Xs Ws As Bs (recvCell c i))) $$ [Hat] with Hz
  · isplitr; · iexact HI
    iexact Hat
  iapply Hk
  isplitl [Hz]; · iexact Hz
  isplitl [Hp]; · iexact Hp
  iexists _; iexact HO

/-- Start the COPY of a row group of the result. -/
theorem copy_step {i : Fin 3} {src : Memref sig .tc .vmem s .f32} {dst : Memref sig .tc .hbm s .f32} {v : Dev nD → s.Idx → Elt F .f32}
    (h : IsCopy Xs Ws As Bs i src dst v) (c : Dev nD) {sC : DmaSem sig} (hC : sC = copyS i)
    {hsrc : src.view.WordExact} {hdst : dst.view.WordExact} {hsem : DmaTarget.Typed .vmem (.dma sC) (DmaTarget.here dst : DmaTarget nD τ sig .tc .hbm s .f32)}
    {α : Type} {k : PUnit → Prog (TpuEff nD τ sig (Elt F) Λ₀ .tc) α} {Q : α → sProp 𝕄} :
    iprop(CopyReady Xs Ws As Bs c i ∗ Own c src (v c) ∗ Any (F := F) c dst)
      ⊢ iprop((Copying Xs Ws As Bs c i -∗ WP c (k ⟨⟩) Q)
          -∗ WP c (.op (.enqueueDma src (.here dst) (.dma sC) hsrc hdst hsem) k) Q) := by
  subst hC
  unfold CopyReady Copying
  simp only [ownsSat, owns]
  iintro ⟨⟨⟨%κ, #HI⟩, #Hr, Ht, Hat⟩, ⟨%fs, %hfs, Hs⟩, ⟨%fd, -, Hd⟩⟩ Hk
  iapply (Rounds.wp_copy_pointsTo 𝒱₀ ER (RD Xs Ws As Bs) (c : Thread nD τ) none (κ := κ) (src := src) (dst := dst) (sem := .dma (copyS i)) (r := 0) (d := false) (fs := fs) (fd := fd)
    (by rw [duties_copy]; exact Finset.mem_singleton_self _) () (camt i) h.damt (need_copy i)
    (by
      rw [payload_copy, h.pay, ← hfs]
      refine BI.sep_mono ((owns_intro (c : Thread nD τ) dst fullShare _).trans (Entails.of_eq ?_)) (ownsSat_of (c : Thread nD τ) src fullShare trivial)
      rw [View.read_write_univ])) $$ [Hs Hd Ht]
  · isplitr; · iexact HI
    isplitl [Hs]; · iexact Hs
    isplitl [Hd]; · iexact Hd
    isplitl [Ht]; · iexact Ht
    iexact Hr
  iintro Hc
  iapply Hk
  isplitr; · iexists κ; iexact HI
  isplitl [Hat]; · iexact Hat
  iexact Hc

/-- Wait for it: the row group of the result, and of the accumulator, its cell closed. -/
theorem wait_copy_step {i : Fin 3} {src : Memref sig .tc .vmem s .f32} {dst : Memref sig .tc .hbm s .f32} {v : Dev nD → s.Idx → Elt F .f32}
    (h : IsCopy Xs Ws As Bs i src dst v) (c : Dev nD) {sC : DmaSem sig} (hC : sC = copyS i)
    {hsrc : src.view.WordExact} {hdst : dst.view.WordExact}
    {α : Type} {k : PUnit → Prog (TpuEff nD τ sig (Elt F) Λ₀ .tc) α} {Q : α → sProp 𝕄} :
    iprop(Copying Xs Ws As Bs c i ∗ Lev ∗ Owing c (owed c []))
      ⊢ iprop(((semVal (copyCell c i) 0 ∗ Own c dst (v c) ∗ Any (F := F) c src ∗ Owing c (owed c [])) -∗ WP c (k ⟨⟩) Q)
          -∗ WP c (.op (.waitDma2 sC src dst hsrc hdst) k) Q) := by
  subst hC
  unfold Copying
  iintro ⟨⟨⟨%κ, #HI⟩, Hat, Hc⟩, #Hlev, ⟨%W, HO⟩⟩ Hk
  rw [← h.damt]
  iapply (Rounds.wp_wait_rest_token 𝒱₀ ER (RD Xs Ws As Bs) (c : Thread nD τ) none (κ := κ)
      (wpE_waitDma2_eq 𝒱₀ (c : Thread nD τ) none Set.univ) (Set.mem_univ _) () (O := owed c []) (W := W) (R := 0) (m := 0) (T := ∅)
      (by rw [Nat.zero_add, expect_copy, h.damt])) $$ [Hc HO Hat]
  · isplitr; · iexact HI
    isplitl [Hc]; · iexact Hc
    isplitl [HO]; · iexact HO
    isplitr
    · iapply (mayWait_owed c (.dma (copyS i)) [] (fun j hj => absurd hj List.not_mem_nil)); iexact Hlev
    iexact Hat
  iintro ⟨HO, Hat, -, Hpay⟩
  ihave Hp := (Entails.of_eq ((rest_copy Xs Ws As Bs c i).trans (h.pay c))) $$ Hpay
  imod (Rounds.cell_close ER (RD Xs Ws As Bs) (Set.mem_univ κ) (fun h => h) (R := 0 + 1) (duties_later Xs Ws As Bs (copyCell c i))) $$ [Hat] with Hz
  · isplitr; · iexact HI
    iexact Hat
  icases Hp with ⟨Hd, Hs⟩
  iapply Hk
  isplitl [Hz]; · iexact Hz
  isplitl [Hd]; · iexact Hd
  isplitl [Hs]; · iexact Hs
  iexists _; iexact HO

/-! ## Loads and stores -/

variable {sp : CoreSpace}

/-- Load a held piece, -/
theorem load_own (c : Dev nD) {m : Memref sig .tc sp s e} {r : Rect s} {hr : ∀ a, r.stride a = 1} {v : r.shape.Idx → Elt F e}
    {hl : m.view.LoadsAt r.toLoadRect} {α : Type} {k : (r.shape.Idx → Elt F e) → Prog (TpuEff nD τ sig (Elt F) Λ₀ .tc) α} {Q : α → sProp 𝕄} :
    Own c (m.slice r hr) v ⊢ iprop((Own c (m.slice r hr) v -∗ WP c (k v) Q) -∗ WP c (.op (.load m r.toLoadRect hl) k) Q) := by
  simp only [owns]
  iintro ⟨%f, %hf, H⟩ Hk
  iapply (wp_load_rect 𝒱₀ (c : Thread nD τ) none Set.univ (m := m) (r := r) (S := (m.slice r hr).view.set) (f := f) (k := k) subset_rfl) $$ H
  iintro H
  rw [show (m.access r).read (Elt F) f = v from hf]
  iapply Hk
  iexists f; isplitr
  · ipureintro; exact hf
  iexact H

/-- a piece of unknown contents, -/
theorem load_any (c : Dev nD) {m : Memref sig .tc sp s e} {r : Rect s} {hr : ∀ a, r.stride a = 1}
    {hl : m.view.LoadsAt r.toLoadRect} {α : Type} {k : (r.shape.Idx → Elt F e) → Prog (TpuEff nD τ sig (Elt F) Λ₀ .tc) α} {Q : α → sProp 𝕄} :
    Any c (m.slice r hr) ⊢ iprop((∀ w, Any c (m.slice r hr) -∗ WP c (k w) Q) -∗ WP c (.op (.load m r.toLoadRect hl) k) Q) := by
  simp only [ownsSat]
  iintro ⟨%f, -, H⟩ Hk
  iapply (wp_load_rect 𝒱₀ (c : Thread nD τ) none Set.univ (m := m) (r := r) (S := (m.slice r hr).view.set) (f := f) (k := k) subset_rfl) $$ H
  iintro H
  iapply Hk
  iexists f; isplitr
  · ipureintro; trivial
  iexact H

/-- a part of a held memref. -/
theorem load_part (c : Dev nD) {m : Memref sig .tc sp s e} {r : Rect s} {X : s.Idx → Elt F e} {w : r.shape.Idx → Elt F e}
    (hw : (fun j => X (r.emb j)) = w)
    {hl : m.view.LoadsAt r.toLoadRect} {α : Type} {k : (r.shape.Idx → Elt F e) → Prog (TpuEff nD τ sig (Elt F) Λ₀ .tc) α} {Q : α → sProp 𝕄} :
    Own c m X ⊢ iprop((Own c m X -∗ WP c (k w) Q) -∗ WP c (.op (.load m r.toLoadRect hl) k) Q) := by
  subst hw
  simp only [owns]
  iintro ⟨%f, %hf, H⟩ Hk
  iapply (wp_load_rect 𝒱₀ (c : Thread nD τ) none Set.univ (m := m) (r := r) (S := m.view.set) (f := f) (k := k) (View.set_slice_subset _ _)) $$ H
  iintro H
  rw [show (m.access r).read (Elt F) f = fun j => X (r.emb j) from by rw [← hf]; rfl]
  iapply Hk
  iexists f; isplitr
  · ipureintro; exact hf
  iexact H

/-- Load the first element of a held slab. -/
theorem load_hd (c : Dev nD) {m : Memref sig .tc .vmem S7x8x128 .f32} {off : Fin 3 → ℕ}
    {h : ∀ a, off a + S1x8x128.size a ≤ S7x8x128.size a} {h' : ∀ a, off a + S1x1x1.size a ≤ S7x8x128.size a}
    {hr : ∀ a, (Rect.unit (s := S7x8x128) off S1x8x128.size h).stride a = 1} {v : Vec F S1x8x128 .f32}
    {hl : m.view.LoadsAt (Rect.unit (s := S7x8x128) off S1x1x1.size h').toLoadRect}
    {α : Type} {k : Vec F S1x1x1 .f32 → Prog (TpuEff nD τ sig (Elt F) Λ₀ .tc) α} {Q : α → sProp 𝕄} :
    Own c (m.slice (Rect.unit (s := S7x8x128) off S1x8x128.size h) hr) v
      ⊢ iprop((Own c (m.slice (Rect.unit (s := S7x8x128) off S1x8x128.size h) hr) v -∗ WP c (k (hd v)) Q)
        -∗ WP c (.op (.load m (Rect.unit (s := S7x8x128) off S1x1x1.size h').toLoadRect hl) k) Q) := by
  have hsub : ∀ x : S1x1x1.Idx, (Rect.unit (s := S7x8x128) off S1x1x1.size h').emb x
      = (Rect.unit (s := S7x8x128) off S1x8x128.size h).emb slabIdx := fun x => by
    funext a
    have hx : (x a).val = 0 := by have := (x a).isLt; revert this; generalize (x a).val = n; revert n a; decide
    apply Fin.ext
    rw [Rect.emb_apply, Rect.emb_apply]
    show off a + 1 * (x a).val = off a + 1 * 0
    rw [hx]
  simp only [owns]
  iintro ⟨%f, %hf, H⟩ Hk
  iapply (wp_load_rect 𝒱₀ (c : Thread nD τ) none Set.univ (m := m) (r := Rect.unit (s := S7x8x128) off S1x1x1.size h')
    (S := (m.slice (Rect.unit (s := S7x8x128) off S1x8x128.size h) hr).view.set) (f := f) (k := k) (by
    intro i hi
    obtain ⟨x, -, rfl⟩ := Finset.mem_map.mp hi
    refine Finset.mem_map.mpr ⟨_, Finset.mem_univ _, congrArg m.view.emb (hsub x).symm⟩)) $$ H
  iintro H
  rw [show (m.access (Rect.unit (s := S7x8x128) off S1x1x1.size h')).read (Elt F) f = hd v from by
    funext x
    unfold hd
    rw [← hf]
    exact congrArg (m.view.read (Elt F) f) (hsub x)]
  iapply Hk
  iexists f; isplitr
  · ipureintro; exact hf
  iexact H

/-- A one-element operand is what its one rectangle reads. -/
theorem scalar_whole (A : Vec F S1 .f32) : (fun j => A ((Rect.unit (s := S1) ![0] S1.size inb_S1_S1_0).emb j)) = A := by
  funext j
  exact congrArg A (by funext a; revert j a; decide)

/-- Store over a piece. -/
theorem store_any (c : Dev nD) {m : Memref sig .tc sp s e} {r : Rect s} {hr : ∀ a, r.stride a = 1} {w v : r.shape.Idx → Elt F e} (hv : w = v)
    {hx : (m.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    Any c (m.slice r hr) ⊢ iprop((Own c (m.slice r hr) v -∗ WP c (k ⟨⟩) Q) -∗ WP c (.op (.store m r w Finset.univ hx hm) k) Q) := by
  subst hv
  simp only [ownsSat, owns]
  iintro ⟨%f, -, H⟩ Hk
  iapply (wp_store 𝒱₀ (c : Thread nD τ) none Set.univ (m := m) (r := r) (S := (m.slice r hr).view.set) (f := f) (k := k) (by
    exact subset_rfl)) $$ H
  iintro H
  iapply Hk
  iexists _; isplitr
  rotate_left
  · iexact H
  ipureintro; exact View.read_write_univ _ _

/-- Forget the contents. -/
theorem own_any (c : Dev nD) {sp : Space} {m : Memref sig .tc sp s e} {v : s.Idx → Elt F e} : Own c m v ⊢ Any c m :=
  ownsSat_intro (c : Thread nD τ) m fullShare trivial

end Cert.Exchange

end
-- ==== Proof.Channels.lean ====
/-
# The channels by their memrefs, and the handshake

Every channel's and every copy's description as the body's rules ask it, the body's arguments, and the rule of the barrier.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Xs : Dev nD → Vec F S4096x1024 .fp8e5m2) (Ws : Dev nD → Vec F S1024x2048 .fp8e5m2)
variable (As Bs : Dev nD → Vec F S1 .f32)

theorem ch0 : IsChan Xs Ws 0 (sAsM.slice g0 (fun _ => rfl)) (sArM.slice g0 (fun _ => rfl)) (dA0 Xs Ws) := ⟨fun _ => rfl, fun _ => rfl, rfl, rfl⟩
theorem ch1 : IsChan Xs Ws 1 (sAsM.slice g1 (fun _ => rfl)) (sArM.slice g1 (fun _ => rfl)) (dA1 Xs Ws) := ⟨fun _ => rfl, fun _ => rfl, rfl, rfl⟩
theorem ch2 : IsChan Xs Ws 2 (sAsM.slice g2 (fun _ => rfl)) (sArM.slice g2 (fun _ => rfl)) (dA2 Xs Ws) := ⟨fun _ => rfl, fun _ => rfl, rfl, rfl⟩
theorem ch3 : IsChan Xs Ws 3 (sBsM.slice gA (fun _ => rfl)) (sBrM.slice gA (fun _ => rfl)) (dB Xs Ws) := ⟨fun _ => rfl, fun _ => rfl, rfl, rfl⟩
theorem ch4 : IsChan Xs Ws 4 (sCsM.slice g0 (fun _ => rfl)) (sCrM.slice g0 (fun _ => rfl)) (dC0 Xs Ws) := ⟨fun _ => rfl, fun _ => rfl, rfl, rfl⟩
theorem ch5 : IsChan Xs Ws 5 (sCsM.slice g1 (fun _ => rfl)) (sCrM.slice g1 (fun _ => rfl)) (dC1 Xs Ws) := ⟨fun _ => rfl, fun _ => rfl, rfl, rfl⟩
theorem ch6 : IsChan Xs Ws 6 (sCsM.slice g2 (fun _ => rfl)) (sCrM.slice g2 (fun _ => rfl)) (dC2 Xs Ws) := ⟨fun _ => rfl, fun _ => rfl, rfl, rfl⟩
theorem ch7 : IsChan Xs Ws 7 (zsM.slice z0 (fun _ => rfl)) (zrM.slice z0 (fun _ => rfl)) (zA0 Xs Ws) := ⟨fun _ => rfl, fun _ => rfl, rfl, rfl⟩
theorem ch8 : IsChan Xs Ws 8 (zsM.slice z1 (fun _ => rfl)) (zrM.slice z1 (fun _ => rfl)) (zA1 Xs Ws) := ⟨fun _ => rfl, fun _ => rfl, rfl, rfl⟩
theorem ch9 : IsChan Xs Ws 9 (zsM.slice z2 (fun _ => rfl)) (zrM.slice z2 (fun _ => rfl)) (zA2 Xs Ws) := ⟨fun _ => rfl, fun _ => rfl, rfl, rfl⟩
theorem ch10 : IsChan Xs Ws 10 (zsM.slice z3 (fun _ => rfl)) (zrM.slice z3 (fun _ => rfl)) (zB Xs Ws) := ⟨fun _ => rfl, fun _ => rfl, rfl, rfl⟩
theorem ch11 : IsChan Xs Ws 11 (zsM.slice z4 (fun _ => rfl)) (zrM.slice z4 (fun _ => rfl)) (zC0 Xs Ws) := ⟨fun _ => rfl, fun _ => rfl, rfl, rfl⟩
theorem ch12 : IsChan Xs Ws 12 (zsM.slice z5 (fun _ => rfl)) (zrM.slice z5 (fun _ => rfl)) (zC1 Xs Ws) := ⟨fun _ => rfl, fun _ => rfl, rfl, rfl⟩
theorem ch13 : IsChan Xs Ws 13 (zsM.slice z6 (fun _ => rfl)) (zrM.slice z6 (fun _ => rfl)) (zC2 Xs Ws) := ⟨fun _ => rfl, fun _ => rfl, rfl, rfl⟩
theorem cp0 : IsCopy Xs Ws As Bs 0 (accM.slice g0 (fun _ => rfl)) (outM.slice g0 (fun _ => rfl)) (out0 Xs Ws As Bs) := ⟨fun _ => rfl, rfl⟩
theorem cp1 : IsCopy Xs Ws As Bs 1 (accM.slice g1 (fun _ => rfl)) (outM.slice g1 (fun _ => rfl)) (out1 Xs Ws As Bs) := ⟨fun _ => rfl, rfl⟩
theorem cp2 : IsCopy Xs Ws As Bs 2 (accM.slice g2 (fun _ => rfl)) (outM.slice g2 (fun _ => rfl)) (out2 Xs Ws As Bs) := ⟨fun _ => rfl, rfl⟩

/-! ## The handshake -/

/-- All `c` needs for its two signals and its wait, -/
def BarReady (c : Dev nD) : sProp 𝕄 :=
  iprop(Cell Xs Ws As Bs (barCell (p1 c)) ∗ Cell Xs Ws As Bs (barCell (p2 c)) ∗ Cell Xs Ws As Bs (barCell c)
    ∗ reached ER (barCell (p1 c)) 0 ∗ reached ER (barCell (p2 c)) 0
    ∗ dutyTok ER (barCell (p1 c)) 0 false ∗ dutyTok ER (barCell (p2 c)) 0 true
    ∗ atPos ER (barCell c) 0 ∅ 0 ∗ cred (tallyAt (barCell c) () 2))
/-- and the landing places it hands out: those of channels `0, 1, 2, 3` to `p1 c`, -/
def Lands1 (c : Dev nD) : sProp 𝕄 :=
  iprop(Landing (F := F) c 0 ∗ Landing (F := F) c 7 ∗ Landing (F := F) c 1 ∗ Landing (F := F) c 8
    ∗ Landing (F := F) c 2 ∗ Landing (F := F) c 9 ∗ Landing (F := F) c 3 ∗ Landing (F := F) c 10)
/-- and those of `4, 5, 6` to `p2 c`. -/
def Lands2 (c : Dev nD) : sProp 𝕄 :=
  iprop(Landing (F := F) c 4 ∗ Landing (F := F) c 11 ∗ Landing (F := F) c 5 ∗ Landing (F := F) c 12
    ∗ Landing (F := F) c 6 ∗ Landing (F := F) c 13)

variable {Xs Ws As Bs}

/-- The first signal: `c`'s landing places to `p1 c`. -/
theorem signal1_step (c : Dev nD) {n : Dev nD} (hn : n = p1 c) {a : ℤ} (ha : a = ((1 : ℕ) : ℤ))
    {α : Type} {k : PUnit → Prog (TpuEff nD τ sig (Elt F) Λ₀ .tc) α} {Q : α → sProp 𝕄} :
    iprop(Cell Xs Ws As Bs (barCell (p1 c)) ∗ reached ER (barCell (p1 c)) 0 ∗ dutyTok ER (barCell (p1 c)) 0 false ∗ Lands1 c ∗ Owing c (O₀ c))
      ⊢ iprop((Owing c (O₁ c) -∗ WP c (k ⟨⟩) Q) -∗ WP c (.op (.semSignal (n : Thread nD τ) barS a) k) Q) := by
  subst hn; subst ha
  iintro ⟨⟨%κ, #HI⟩, #Hr, Ht, HL, ⟨%W, HO⟩⟩ Hk
  iapply (Rounds.wp_signal 𝒱₀ ER (RD Xs Ws As Bs) (c : Thread nD τ) none (dst := (p1 c : Thread nD τ)) (κ := κ)
      (d := false) (by rw [duties_bar]; exact Finset.mem_univ _) (show need (.reg barS) = 1 from rfl) () (O₁ c) rfl)
    $$ [HO Ht HL]
  · isplitr; · iexact HI
    isplitl [HO]; · iexact HO
    isplitl [Ht]; · iexact Ht
    isplitl [HL]
    · iapply (Entails.of_eq (show Lands1 (F := F) c = (RD Xs Ws As Bs).payload (barCell (p1 c)) 0 false from by
        show _ = barPay1 (p1 c); unfold barPay1; rw [p1_p1]; rfl)) $$ HL
    iexact Hr
  iintro HO
  iapply Hk
  iexists W; iexact HO

/-- The second: to `p2 c`. -/
theorem signal2_step (c : Dev nD) {n : Dev nD} (hn : n = p2 c) {a : ℤ} (ha : a = ((1 : ℕ) : ℤ))
    {α : Type} {k : PUnit → Prog (TpuEff nD τ sig (Elt F) Λ₀ .tc) α} {Q : α → sProp 𝕄} :
    iprop(Cell Xs Ws As Bs (barCell (p2 c)) ∗ reached ER (barCell (p2 c)) 0 ∗ dutyTok ER (barCell (p2 c)) 0 true ∗ Lands2 c ∗ Owing c (O₁ c))
      ⊢ iprop((Owing c (owed c order) -∗ WP c (k ⟨⟩) Q) -∗ WP c (.op (.semSignal (n : Thread nD τ) barS a) k) Q) := by
  subst hn; subst ha
  iintro ⟨⟨%κ, #HI⟩, #Hr, Ht, HL, ⟨%W, HO⟩⟩ Hk
  iapply (Rounds.wp_signal 𝒱₀ ER (RD Xs Ws As Bs) (c : Thread nD τ) none (dst := (p2 c : Thread nD τ)) (κ := κ)
      (d := true) (by rw [duties_bar]; exact Finset.mem_univ _) (show need (.reg barS) = 1 from rfl) () (owed c order) rfl)
    $$ [HO Ht HL]
  · isplitr; · iexact HI
    isplitl [HO]; · iexact HO
    isplitl [Ht]; · iexact Ht
    isplitl [HL]
    · iapply (Entails.of_eq (show Lands2 (F := F) c = (RD Xs Ws As Bs).payload (barCell (p2 c)) 0 true from by
        show _ = barPay2 (p2 c); unfold barPay2; rw [p2_p2]; rfl)) $$ HL
    iexact Hr
  iintro HO
  iapply Hk
  iexists W; iexact HO

/-- The wait for both partners: their landing places, the barrier cell closed. -/
theorem barrier_step (c : Dev nD) {a : ℤ} (ha : a = ((2 : ℕ) : ℤ))
    {α : Type} {k : PUnit → Prog (TpuEff nD τ sig (Elt F) Λ₀ .tc) α} {Q : α → sProp 𝕄} :
    iprop(Cell Xs Ws As Bs (barCell c) ∗ atPos ER (barCell c) 0 ∅ 0 ∗ cred (tallyAt (barCell c) () 2) ∗ Lev ∗ Owing c (owed c order))
      ⊢ iprop(((semVal (barCell c) 0 ∗ barPay1 (F := F) c ∗ barPay2 (F := F) c ∗ Owing c (owed c order)) -∗ WP c (k ⟨⟩) Q)
          -∗ WP c (.op (.semWait barS a) k) Q) := by
  subst ha
  iintro ⟨⟨%κ, #HI⟩, Hat, Hc, #Hlev, ⟨%W, HO⟩⟩ Hk
  iapply (Rounds.wp_wait_rest_token 𝒱₀ ER (RD Xs Ws As Bs) (c : Thread nD τ) none (κ := κ)
      (wpE_semWait_eq 𝒱₀ (c : Thread nD τ) none Set.univ) (Set.mem_univ _) () (O := owed c order) (W := W) (R := 0) (m := 0) (T := ∅)
      (by rw [expect_bar])) $$ [Hc HO Hat]
  · isplitr; · iexact HI
    isplitl [Hc]; · iexact Hc
    isplitl [HO]; · iexact HO
    isplitr
    · iapply (mayWait_owed c (.reg barS) order (fun j _ => by unfold clev; split <;> decide)); iexact Hlev
    iexact Hat
  iintro ⟨HO, Hat, -, Hpay⟩
  ihave Hp := (Entails.of_eq (rest_bar Xs Ws As Bs c)) $$ Hpay
  imod (Rounds.cell_close ER (RD Xs Ws As Bs) (Set.mem_univ κ) (fun h => h) (R := 0 + 1) (duties_later Xs Ws As Bs (barCell c))) $$ [Hat] with Hz
  · isplitr; · iexact HI
    iexact Hat
  icases Hp with ⟨H1, H2⟩
  iapply Hk
  isplitl [Hz]; · iexact Hz
  isplitl [H1]; · iexact H1
  isplitl [H2]; · iexact H2
  iexists _; iexact HO

/-- The end of a program. -/
theorem done (c : Dev nD) {α : Type} (a : α) {Q : α → sProp 𝕄} : Q a ⊢ WP c (.ret a) Q := by
  show _ ⊢ wp _ _ _ _ _
  rw [wp_ret]; iintro H; imodintro; iexact H

/-! ## The body's arguments -/

/-- A part of the body at the launch's memrefs and semaphores. -/
abbrev at₀ {β : Type 1} (f : (arg0 : Memref sig .tc .vmem S4096x1024 .fp8e5m2) → arg0.IsWhole → (arg1 : Memref sig .tc .vmem S1024x2048 .fp8e5m2) → arg1.IsWhole → (arg2 : Memref sig .tc .smem S1 .f32) → arg2.IsWhole → (arg3 : Memref sig .tc .smem S1 .f32) → arg3.IsWhole → (arg4 : Memref sig .tc .hbm S1024x2048 .f32) → arg4.IsWhole → (arg5 : Memref sig .tc .vmem S1024x2048 .f32) → arg5.IsWhole → (arg6 : Memref sig .tc .vmem S1024x2048 .f32) → arg6.IsWhole → (arg7 : Memref sig .tc .vmem S1024x2048 .i8) → arg7.IsWhole → (arg8 : Memref sig .tc .vmem S1024x2048 .i8) → arg8.IsWhole → (arg9 : Memref sig .tc .vmem S1024x2048 .i8) → arg9.IsWhole → (arg10 : Memref sig .tc .vmem S1024x2048 .i8) → arg10.IsWhole → (arg11 : Memref sig .tc .vmem S1024x2048 .i8) → arg11.IsWhole → (arg12 : Memref sig .tc .vmem S1024x2048 .i8) → arg12.IsWhole → (arg13 : Memref sig .tc .vmem S7x8x128 .f32) → arg13.IsWhole → (arg14 : Memref sig .tc .vmem S7x8x128 .f32) → arg14.IsWhole → DmaSems sig S14 → DmaSems sig S14 → DmaSems sig S3 → β) : β :=
  f xM (Memref.isWhole_whole _) wM (Memref.isWhole_whole _) sxM (Memref.isWhole_whole _) swM (Memref.isWhole_whole _) outM (Memref.isWhole_whole _) accM (Memref.isWhole_whole _) fwdM (Memref.isWhole_whole _) sAsM (Memref.isWhole_whole _) sArM (Memref.isWhole_whole _) sBsM (Memref.isWhole_whole _) sBrM (Memref.isWhole_whole _) sCsM (Memref.isWhole_whole _) sCrM (Memref.isWhole_whole _) zsM (Memref.isWhole_whole _) zrM (Memref.isWhole_whole _) cc0_scratch10 cc0_scratch11 cc0_scratch12

end Cert.Exchange

end
-- ==== Proof.Parts1.lean ====
/-
# The body's first parts: the handshake and the transfers to the first partner
-/
module

public import proofs.«01_k».proof.Proof.Channels

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {Xs : Dev nD → Vec F S4096x1024 .fp8e5m2} {Ws : Dev nD → Vec F S1024x2048 .fp8e5m2}
variable {As Bs : Dev nD → Vec F S1 .f32}

/-- The rows `[0, 256)` for `p1`'s partner, compressed. -/
theorem part1 (c : Dev nD) (Q : _ → sProp 𝕄) :
    iprop((Own c xM (Xs c) ∗ Own c wM (Ws c) ∗ Any (F := F) c (sAsM.slice g0 (fun _ => rfl)) ∗ Any (F := F) c (zsM.slice z0 (fun _ => rfl)))
        ∗ (∀ a2 a3 a4 a7 a8, (Own c xM (Xs c) ∗ Own c wM (Ws c) ∗ Own c (sAsM.slice g0 (fun _ => rfl)) (dA0 Xs Ws c) ∗ Any (F := F) c (zsM.slice z0 (fun _ => rfl)))
            -∗ Q ⟨c, a2, a3, a4, w6 Ws c, a7, a8, k0_pay5 (w5 Ws c) (xA0 Xs c)⟩))
      ⊢ WP c (at₀ (k0_part1 (F := F))) Q := by
  simp only [k0_part1_eq_skeleton]; unfold k0_part1_skel
  simp only [Prog.lift, Prog.bind_op, Prog.bind_ret, Prog.pure_eq_ret, wp_deviceId]
  iintro ⟨⟨Hx, Hw, Hs, Hz⟩, Hk⟩
  iapply (load_part c (w := w5 Ws c) rfl) $$ Hw; iintro Hw
  iapply (load_part c (w := xA0 Xs c) rfl) $$ Hx; iintro Hx
  iapply (load_any c) $$ Hs; iintro %_ Hs
  iapply (store_any c (v := dA0 Xs Ws c) rfl) $$ Hs; iintro Hs
  iapply (load_any c) $$ Hz; iintro %_ Hz
  iapply (done c)
  iapply Hk
  isplitl [Hx]; · iexact Hx
  isplitl [Hw]; · iexact Hw
  isplitl [Hs]; · iexact Hs
  iexact Hz

/-- The handshake, and the transfer of those rows. -/
theorem part2 (c : Dev nD) (a3 a4 a7 : BitVec 32) (Q : PUnit → sProp 𝕄) :
    iprop((Lev ∗ BarReady Xs Ws As Bs c ∗ Lands1 c ∗ Lands2 c ∗ Owing c (O₀ c) ∗ Ready Xs Ws As Bs c 0 ∗ Ready Xs Ws As Bs c 7
          ∗ Own c (sAsM.slice g0 (fun _ => rfl)) (dA0 Xs Ws c) ∗ Any (F := F) c (zsM.slice z0 (fun _ => rfl)))
        ∗ ((semVal (barCell c) 0 ∗ Sent Xs Ws As Bs c 0 ∗ Sent Xs Ws As Bs c 7 ∗ Owing c (owed c [1, 8, 2, 9, 3, 10, 4, 11, 5, 12, 6, 13])
            ∗ (Landing (F := F) (p1 c) 1 ∗ Landing (F := F) (p1 c) 8 ∗ Landing (F := F) (p1 c) 2 ∗ Landing (F := F) (p1 c) 9 ∗ Landing (F := F) (p1 c) 3 ∗ Landing (F := F) (p1 c) 10)
            ∗ barPay2 (F := F) c) -∗ Q ⟨⟩))
      ⊢ WP c ((at₀ (k0_part2 (F := F)) :) c a3 a4 a7 (k0_pay5 (w5 Ws c) (xA0 Xs c))) Q := by
  simp only [k0_part2_eq_skeleton]; unfold k0_part2_skel
  simp only [semSignalWord, semWaitWord, Prog.lift, Prog.bind_op, Prog.bind_ret, Prog.pure_eq_ret]
  unfold BarReady
  iintro ⟨⟨#Hlev, ⟨#HI1, #HI2, #HI, #Hr1, #Hr2, Ht1, Ht2, Hat, Hcr⟩, HL1, HL2, HO, HR0, HR7, Hs, Hz⟩, Hk⟩
  iapply (store_any c (v := zA0 Xs Ws c) rfl) $$ Hz; iintro Hz
  iapply (signal1_step (Xs := Xs) (Ws := Ws) (As := As) (Bs := Bs) c (dev1_eq c) (a := (1#32).toInt) (by decide)) $$ [Ht1 HL1 HO]
  · isplitr; · iexact HI1
    isplitr; · iexact Hr1
    isplitl [Ht1]; · iexact Ht1
    isplitl [HL1]; · iexact HL1
    iexact HO
  iintro HO
  iapply (signal2_step (Xs := Xs) (Ws := Ws) (As := As) (Bs := Bs) c (dev2_eq c) (a := (1#32).toInt) (by decide)) $$ [Ht2 HL2 HO]
  · isplitr; · iexact HI2
    isplitr; · iexact Hr2
    isplitl [Ht2]; · iexact Ht2
    isplitl [HL2]; · iexact HL2
    iexact HO
  iintro HO
  iapply (barrier_step (Xs := Xs) (Ws := Ws) (As := As) (Bs := Bs) c (a := (2#32).toInt) (by decide)) $$ [Hat Hcr HO]
  · isplitr; · iexact HI
    isplitl [Hat]; · iexact Hat
    isplitl [Hcr]; · iexact Hcr
    isplitr; · iexact Hlev
    iexact HO
  iintro ⟨Hb, HB1, HB2, HO⟩
  unfold barPay1
  icases HB1 with ⟨HD0, HD7, HB1⟩
  iapply (send_step (ch0 Xs Ws) c [7, 1, 8, 2, 9, 3, 10, 4, 11, 5, 12, 6, 13] (dev3_eq c) rfl rfl) $$ [HR0 Hs HD0 HO]
  · isplitl [HR0]; · iexact HR0
    isplitl [Hs]; · iexact Hs
    isplitl [HD0]; · iexact HD0
    iexact HO
  iintro ⟨HS0, HO⟩
  iapply (send_step (ch7 Xs Ws) c [1, 8, 2, 9, 3, 10, 4, 11, 5, 12, 6, 13] (dev4_eq c) rfl rfl) $$ [HR7 Hz HD7 HO]
  · isplitl [HR7]; · iexact HR7
    isplitl [Hz]; · iexact Hz
    isplitl [HD7]; · iexact HD7
    iexact HO
  iintro ⟨HS7, HO⟩
  iapply (done c)
  iapply Hk
  isplitl [Hb]; · iexact Hb
  isplitl [HS0]; · iexact HS0
  isplitl [HS7]; · iexact HS7
  isplitl [HO]; · iexact HO
  isplitl [HB1]; · iexact HB1
  iexact HB2

end Cert.Exchange

end
-- ==== Proof.Pieces.lean ====
/-
# Buffers and their pieces

A buffer of 1024 rows is its three row groups, a scale buffer its seven slabs, and the rectangle of all rows is the buffer.
-/
module

public import proofs.«01_k».proof.Proof.Channels

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The rectangles -/

theorem grp_stride : ∀ (t : Fin 3) a, (grp t).stride a = 1 := fun t => by fin_cases t <;> exact fun _ => rfl
theorem grp_disj : ∀ t t' : Fin 3, t ≠ t' → Disjoint (grp t).set (grp t').set := fun t t' h => by
  fin_cases t <;> fin_cases t' <;> first | exact absurd rfl h | exact Rect.unit_disjoint 0 (by decide)
theorem grp_cov : (Finset.univ : Finset (Fin 3)).biUnion (fun t => (grp t).set) = Finset.univ := by
  refine Finset.eq_univ_iff_forall.mpr fun i => Finset.mem_biUnion.mpr ?_
  have h0 : (i 0).val < 1024 := (i 0).isLt
  have h1 : (i 1).val < 2048 := (i 1).isLt
  by_cases ha : (i 0).val < 256
  · exact ⟨0, Finset.mem_univ _, Rect.mem_set_unit.mpr (Fin.forall_fin_two.mpr ⟨⟨Nat.zero_le _, ha⟩, Nat.zero_le _, h1⟩)⟩
  by_cases hb : (i 0).val < 768
  · exact ⟨1, Finset.mem_univ _, Rect.mem_set_unit.mpr (Fin.forall_fin_two.mpr ⟨⟨by show 256 ≤ _; omega, by show _ < 256 + 512; omega⟩, Nat.zero_le _, h1⟩)⟩
  · exact ⟨2, Finset.mem_univ _, Rect.mem_set_unit.mpr (Fin.forall_fin_two.mpr ⟨⟨by show 768 ≤ _; omega, by show _ < 768 + 256; omega⟩, Nat.zero_le _, h1⟩)⟩

theorem slab_stride : ∀ (t : Fin 7) a, (slab t).stride a = 1 := fun t => by fin_cases t <;> exact fun _ => rfl
theorem slab_disj : ∀ t t' : Fin 7, t ≠ t' → Disjoint (slab t).set (slab t').set := fun t t' h => by
  fin_cases t <;> fin_cases t' <;> first | exact absurd rfl h | exact Rect.unit_disjoint 0 (by decide)
theorem slab_cov : (Finset.univ : Finset (Fin 7)).biUnion (fun t => (slab t).set) = Finset.univ := by
  refine Finset.eq_univ_iff_forall.mpr fun i => Finset.mem_biUnion.mpr ⟨i 0, Finset.mem_univ _, ?_⟩
  have h1 : (i 1).val < 8 := (i 1).isLt
  have h2 : (i 2).val < 128 := (i 2).isLt
  have key : ∀ t : Fin 7, i 0 = t → i ∈ (slab t).set := fun t ht => by
    have hv : (i 0).val = t.val := congrArg Fin.val ht
    fin_cases t <;> refine Rect.mem_set_unit.mpr fun a => ?_ <;> fin_cases a <;>
      first
        | exact ⟨le_of_eq hv.symm, lt_of_le_of_lt (le_of_eq hv) (by decide)⟩
        | exact ⟨Nat.zero_le _, h1⟩
        | exact ⟨Nat.zero_le _, h2⟩
  exact key (i 0) rfl

theorem all_emb (j : S1024x2048.Idx) : gA.emb j = j := by
  funext a
  apply Fin.ext
  rw [Rect.emb_apply]
  show (![0, 0] : Fin 2 → ℕ) a + 1 * (j a).val = (j a).val
  fin_cases a <;> simp
theorem all_cov : (Finset.univ : Finset Unit).biUnion (fun _ => gA.set) = Finset.univ := by
  refine Finset.eq_univ_iff_forall.mpr fun i => Finset.mem_biUnion.mpr ⟨(), Finset.mem_univ _, ?_⟩
  exact Rect.mem_set_unit.mpr (Fin.forall_fin_two.mpr ⟨⟨Nat.zero_le _, by have := (i 0).isLt; simpa using this⟩, Nat.zero_le _, by have := (i 1).isLt; simpa using this⟩)

instance elt_nonempty (e : EltTy) : Nonempty (Elt F e) := inferInstance

/-! ## Owning them -/

variable {sp : Space} {e : EltTy}

theorem own_groups (c : Dev nD) (m : Memref sig .tc sp S1024x2048 e) (X : S1024x2048.Idx → Elt F e) :
    Own c m X ⊢ iprop(Own c (m.slice g0 (fun _ => rfl)) (fun j => X (g0.emb j)) ∗ Own c (m.slice g1 (fun _ => rfl)) (fun j => X (g1.emb j))
      ∗ Own c (m.slice g2 (fun _ => rfl)) (fun j => X (g2.emb j))) := by
  refine (owns_rects (c : Thread nD τ) m fullShare grp grp_stride grp_disj grp_cov X).trans (Entails.of_eq ?_)
  rw [bigSep_univ_eq_bigSepL [0, 1, 2] (by decide) (by decide)]; rfl

theorem groups_own (c : Dev nD) (m : Memref sig .tc sp S1024x2048 e) (X : S1024x2048.Idx → Elt F e) :
    iprop(Own c (m.slice g0 (fun _ => rfl)) (fun j => X (g0.emb j)) ∗ Own c (m.slice g1 (fun _ => rfl)) (fun j => X (g1.emb j))
      ∗ Own c (m.slice g2 (fun _ => rfl)) (fun j => X (g2.emb j))) ⊢ Own c m X := by
  refine (Entails.of_eq ?_).trans (owns_of_rects (c : Thread nD τ) m fullShare grp grp_stride grp_disj grp_cov X)
  rw [bigSep_univ_eq_bigSepL [0, 1, 2] (by decide) (by decide)]; rfl

theorem any_groups (c : Dev nD) (m : Memref sig .tc sp S1024x2048 e) :
    Any (F := F) c m ⊢ iprop(Any c (m.slice g0 (fun _ => rfl)) ∗ Any c (m.slice g1 (fun _ => rfl)) ∗ Any c (m.slice g2 (fun _ => rfl))) := by
  refine (ownsSat_mono (c : Thread nD τ) m fullShare (fun _ _ _ => trivial)).trans
    ((ownsSat_rects (c : Thread nD τ) m fullShare grp grp_stride grp_disj grp_cov (fun _ _ => True)).trans (Entails.of_eq ?_))
  rw [bigSep_univ_eq_bigSepL [0, 1, 2] (by decide) (by decide)]; rfl

theorem groups_any (c : Dev nD) (m : Memref sig .tc sp S1024x2048 e) :
    iprop(Any c (m.slice g0 (fun _ => rfl)) ∗ Any c (m.slice g1 (fun _ => rfl)) ∗ Any c (m.slice g2 (fun _ => rfl))) ⊢ Any (F := F) c m := by
  refine (Entails.of_eq ?_).trans ((ownsSat_of_rects (c : Thread nD τ) m fullShare grp grp_stride grp_disj grp_cov (fun _ _ => True)).trans
    (ownsSat_mono (c : Thread nD τ) m fullShare (fun _ _ => trivial)))
  rw [bigSep_univ_eq_bigSepL [0, 1, 2] (by decide) (by decide)]; rfl

/-- The seven slabs. -/
abbrev Slabs (c : Dev nD) (m : Memref sig .tc sp S7x8x128 e) : sProp 𝕄 :=
  iprop(Any c (m.slice z0 (fun _ => rfl)) ∗ Any c (m.slice z1 (fun _ => rfl)) ∗ Any c (m.slice z2 (fun _ => rfl)) ∗ Any c (m.slice z3 (fun _ => rfl))
    ∗ Any c (m.slice z4 (fun _ => rfl)) ∗ Any c (m.slice z5 (fun _ => rfl)) ∗ Any c (m.slice z6 (fun _ => rfl)))

theorem any_slabs (c : Dev nD) (m : Memref sig .tc sp S7x8x128 e) : Any (F := F) c m ⊢ Slabs c m := by
  refine (ownsSat_mono (c : Thread nD τ) m fullShare (fun _ _ _ => trivial)).trans
    ((ownsSat_rects (c : Thread nD τ) m fullShare slab slab_stride slab_disj slab_cov (fun _ _ => True)).trans (Entails.of_eq ?_))
  rw [bigSep_univ_eq_bigSepL [0, 1, 2, 3, 4, 5, 6] (by decide) (by decide)]; rfl

theorem slabs_any (c : Dev nD) (m : Memref sig .tc sp S7x8x128 e) : Slabs c m ⊢ Any (F := F) c m := by
  refine (Entails.of_eq ?_).trans ((ownsSat_of_rects (c : Thread nD τ) m fullShare slab slab_stride slab_disj slab_cov (fun _ _ => True)).trans
    (ownsSat_mono (c : Thread nD τ) m fullShare (fun _ _ => trivial)))
  rw [bigSep_univ_eq_bigSepL [0, 1, 2, 3, 4, 5, 6] (by decide) (by decide)]; rfl

theorem any_all (c : Dev nD) (m : Memref sig .tc sp S1024x2048 e) : Any (F := F) c m ⊢ Any c (m.slice gA (fun _ => rfl)) := by
  refine (ownsSat_mono (c : Thread nD τ) m fullShare (fun _ _ _ => trivial)).trans
    ((ownsSat_rects (T := Unit) (c : Thread nD τ) m fullShare (fun _ => gA) (fun _ _ => rfl) (fun _ _ h => absurd rfl h) all_cov (fun _ _ => True)).trans (Entails.of_eq ?_))
  rw [bigSep_univ_eq_bigSepL [()] (by decide) (by decide)]; rfl

theorem all_any (c : Dev nD) (m : Memref sig .tc sp S1024x2048 e) : Any c (m.slice gA (fun _ => rfl)) ⊢ Any (F := F) c m := by
  refine (Entails.of_eq ?_).trans ((ownsSat_of_rects (T := Unit) (c : Thread nD τ) m fullShare (fun _ => gA) (fun _ _ => rfl) (fun _ _ h => absurd rfl h) all_cov (fun _ _ => True)).trans
    (ownsSat_mono (c : Thread nD τ) m fullShare (fun _ _ => trivial)))
  rw [bigSep_univ_eq_bigSepL [()] (by decide) (by decide)]; rfl

theorem all_own (c : Dev nD) (m : Memref sig .tc sp S1024x2048 e) (X : S1024x2048.Idx → Elt F e) :
    Own c (m.slice gA (fun _ => rfl)) X ⊢ Own c m X := by
  refine (Entails.of_eq ?_).trans (owns_of_rects (T := Unit) (c : Thread nD τ) m fullShare (fun _ => gA) (fun _ _ => rfl) (fun _ _ h => absurd rfl h) all_cov X)
  rw [bigSep_univ_eq_bigSepL [()] (by decide) (by decide)]
  show Own c (m.slice gA (fun _ => rfl)) X = Own c (m.slice gA (fun _ => rfl)) (fun j => X (gA.emb j))
  rw [show (fun j => X (gA.emb j)) = X from funext fun j => congrArg X (all_emb j)]

/-! ## The result -/

variable (Xs : Dev nD → Vec F S4096x1024 .fp8e5m2) (Ws : Dev nD → Vec F S1024x2048 .fp8e5m2)
variable (As Bs : Dev nD → Vec F S1 .f32)

/-- Device `c`'s result: its three row groups, glued. -/
def result (c : Dev nD) : Vec F S1024x2048 .f32 :=
  Rect.glue grp grp_cov (fun t => match t with | 0 => out0 Xs Ws As Bs c | 1 => out1 Xs Ws As Bs c | 2 => out2 Xs Ws As Bs c)

theorem result_0 (c : Dev nD) (j : S256x2048.Idx) : result Xs Ws As Bs c (g0.emb j) = out0 Xs Ws As Bs c j :=
  Rect.glue_emb grp grp_cov grp_disj _ (0 : Fin 3) j
theorem result_1 (c : Dev nD) (j : S512x2048.Idx) : result Xs Ws As Bs c (g1.emb j) = out1 Xs Ws As Bs c j :=
  Rect.glue_emb grp grp_cov grp_disj _ (1 : Fin 3) j
theorem result_2 (c : Dev nD) (j : S256x2048.Idx) : result Xs Ws As Bs c (g2.emb j) = out2 Xs Ws As Bs c j :=
  Rect.glue_emb grp grp_cov grp_disj _ (2 : Fin 3) j

theorem own_result (c : Dev nD) (m : Memref sig .tc sp S1024x2048 .f32) :
    iprop(Own c (m.slice g0 (fun _ => rfl)) (out0 Xs Ws As Bs c) ∗ Own c (m.slice g1 (fun _ => rfl)) (out1 Xs Ws As Bs c)
      ∗ Own c (m.slice g2 (fun _ => rfl)) (out2 Xs Ws As Bs c)) ⊢ Own c m (result Xs Ws As Bs c) := by
  refine (Entails.of_eq ?_).trans (groups_own c m _)
  rw [show (fun j => result Xs Ws As Bs c (g0.emb j)) = out0 Xs Ws As Bs c from funext (result_0 Xs Ws As Bs c),
    show (fun j => result Xs Ws As Bs c (g1.emb j)) = out1 Xs Ws As Bs c from funext (result_1 Xs Ws As Bs c),
    show (fun j => result Xs Ws As Bs c (g2.emb j)) = out2 Xs Ws As Bs c from funext (result_2 Xs Ws As Bs c)]

end Cert.Exchange

end
-- ==== Proof.Parts4.lean ====
/-
# The body's last parts: the sum and the result
-/
module

public import proofs.«01_k».proof.Proof.Channels

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {Xs : Dev nD → Vec F S4096x1024 .fp8e5m2} {Ws : Dev nD → Vec F S1024x2048 .fp8e5m2}
variable {As Bs : Dev nD → Vec F S1 .f32}

/-- It stored; waits on channels 3 and 10. -/
theorem part15 (c : Dev nD) (a3 : BitVec 32) (b : Vec F S1024x2048 .f32) (Q : PUnit → sProp 𝕄) :
    iprop((Lev ∗ Any (F := F) c (accM.slice gA (fun _ => rfl)) ∗ Sent Xs Ws As Bs c 3 ∗ Owing c (owed c []) ∗ Due Xs Ws As Bs c 3 ∗ Sent Xs Ws As Bs c 10)
        ∗ ((Own c (accM.slice gA (fun _ => rfl)) (acc0 Xs Ws c) ∗ Owing c (owed c []) ∗ semVal (sendCell c 3) 0 ∗ Any (F := F) c (sBsM.slice gA (fun _ => rfl)) ∗ semVal (recvCell c 3) 0 ∗ Own c (sBrM.slice gA (fun _ => rfl)) (dB Xs Ws (peer c 3)) ∗ semVal (sendCell c 10) 0 ∗ Any (F := F) c (zsM.slice z3 (fun _ => rfl)))
            -∗ Q ⟨⟩))
      ⊢ WP c ((at₀ (k0_part15 (F := F)) :) a3 (k0_pay38 (w6 Ws c) (xO Xs c)) b) Q := by
  simp only [k0_part15_eq_skeleton]; unfold k0_part15_skel
  simp only [Prog.lift, Prog.bind_op, Prog.bind_ret, Prog.pure_eq_ret]
  iintro ⟨⟨#Hlev, Ha, HS3, HO, HD3, HS10⟩, Hk⟩
  iapply (store_any c (v := (acc0 Xs Ws c)) rfl) $$ Ha; iintro Ha
  iapply (wait_send_step (ch3 Xs Ws) c [] rfl) $$ [HS3 HO]
  · iframe HS3 Hlev HO
  iintro ⟨HvS3, HBs, HO⟩
  iapply (wait_recv_step (ch3 Xs Ws) c [] (by decide) rfl) $$ [HD3 HO]
  · iframe HD3 Hlev HO
  iintro ⟨HvR3, HBr, HO⟩
  iapply (wait_send_step (ch10 Xs Ws) c [] rfl) $$ [HS10 HO]
  · iframe HS10 Hlev HO
  iintro ⟨HvS10, Hz3, HO⟩
  iapply (done c)
  iapply Hk
  iframe Ha HO HvS3 HBs HvR3 HBr HvS10 Hz3

/-- What arrived added; the scales of the operands; waits on channel 4. -/
theorem part16 (c : Dev nD) (a4 : BitVec 32) (Q : _ → sProp 𝕄) :
    iprop((Lev ∗ Due Xs Ws As Bs c 10 ∗ Owing c (owed c []) ∗ Own c (accM.slice gA (fun _ => rfl)) (acc0 Xs Ws c) ∗ Own c (sBrM.slice gA (fun _ => rfl)) (dB Xs Ws (peer c 3)) ∗ Own c sxM (As c) ∗ Own c swM (Bs c) ∗ Sent Xs Ws As Bs c 4 ∗ Due Xs Ws As Bs c 4)
        ∗ ((Owing c (owed c []) ∗ semVal (recvCell c 10) 0 ∗ Own c (zrM.slice z3 (fun _ => rfl)) (zB Xs Ws (peer c 10)) ∗ Own c (accM.slice gA (fun _ => rfl)) (acc1 Xs Ws c) ∗ Own c (sBrM.slice gA (fun _ => rfl)) (dB Xs Ws (peer c 3)) ∗ Own c sxM (As c) ∗ Own c swM (Bs c) ∗ semVal (sendCell c 4) 0 ∗ Any (F := F) c (sCsM.slice g0 (fun _ => rfl)) ∗ semVal (recvCell c 4) 0 ∗ Own c (sCrM.slice g0 (fun _ => rfl)) (dC0 Xs Ws (peer c 4)))
            -∗ Q (scl As Bs c)))
      ⊢ WP c ((at₀ (k0_part16 (F := F)) :) a4) Q := by
  simp only [k0_part16_eq_skeleton]; unfold k0_part16_skel
  simp only [smemLoad, smemLoadElt, Prog.lift, Prog.bind_op, Prog.bind_ret, Prog.pure_eq_ret]
  iintro ⟨⟨#Hlev, HD10, HO, Ha, HBr, Hsx, Hsw, HS4, HD4⟩, Hk⟩
  iapply (wait_recv_step (ch10 Xs Ws) c [] (by decide) rfl) $$ [HD10 HO]
  · iframe HD10 Hlev HO
  iintro ⟨HvR10, Hr3, HO⟩
  iapply (load_own c) $$ Ha; iintro Ha
  iapply (load_own c) $$ HBr; iintro HBr
  iapply (load_hd c) $$ Hr3; iintro Hr3
  iapply (load_own c) $$ Ha; iintro Ha
  ihave Ha := (own_any c) $$ Ha
  iapply (store_any c (v := (acc1 Xs Ws c)) rfl) $$ Ha; iintro Ha
  iapply (load_part c (w := As c) (scalar_whole _)) $$ Hsx; iintro Hsx
  iapply (load_part c (w := Bs c) (scalar_whole _)) $$ Hsw; iintro Hsw
  iapply (wait_send_step (ch4 Xs Ws) c [] rfl) $$ [HS4 HO]
  · iframe HS4 Hlev HO
  iintro ⟨HvS4, HCs0, HO⟩
  iapply (wait_recv_step (ch4 Xs Ws) c [] (by decide) rfl) $$ [HD4 HO]
  · iframe HD4 Hlev HO
  iintro ⟨HvR4, HCr0, HO⟩
  iapply (done c)
  iapply Hk
  iframe HO HvR10 Hr3 Ha HBr Hsx Hsw HvS4 HCs0 HvR4 HCr0

/-- The first row group of the result. -/
theorem part17 (c : Dev nD) (a4 : BitVec 32) (Q : PUnit → sProp 𝕄) :
    iprop((Lev ∗ Sent Xs Ws As Bs c 11 ∗ Owing c (owed c []) ∗ Due Xs Ws As Bs c 11 ∗ Own c (accM.slice g0 (fun _ => rfl)) (fun j => acc1 Xs Ws c (g0.emb j)) ∗ Own c (sCrM.slice g0 (fun _ => rfl)) (dC0 Xs Ws (peer c 4)) ∗ CopyReady Xs Ws As Bs c 0 ∗ Any (F := F) c (outM.slice g0 (fun _ => rfl)))
        ∗ ((Owing c (owed c []) ∗ semVal (sendCell c 11) 0 ∗ Any (F := F) c (zsM.slice z4 (fun _ => rfl)) ∗ semVal (recvCell c 11) 0 ∗ Own c (zrM.slice z4 (fun _ => rfl)) (zC0 Xs Ws (peer c 11)) ∗ Own c (sCrM.slice g0 (fun _ => rfl)) (dC0 Xs Ws (peer c 4)) ∗ Copying Xs Ws As Bs c 0)
            -∗ Q ⟨⟩))
      ⊢ WP c ((at₀ (k0_part17 (F := F)) :) a4 (scl As Bs c)) Q := by
  simp only [k0_part17_eq_skeleton]; unfold k0_part17_skel
  simp only [Prog.lift, Prog.bind_op, Prog.bind_ret, Prog.pure_eq_ret]
  iintro ⟨⟨#Hlev, HS11, HO, HD11, Ha0, HCr0, HY0, Ho0⟩, Hk⟩
  iapply (wait_send_step (ch11 Xs Ws) c [] rfl) $$ [HS11 HO]
  · iframe HS11 Hlev HO
  iintro ⟨HvS11, Hz4, HO⟩
  iapply (wait_recv_step (ch11 Xs Ws) c [] (by decide) rfl) $$ [HD11 HO]
  · iframe HD11 Hlev HO
  iintro ⟨HvR11, Hr4, HO⟩
  iapply (load_own c) $$ Ha0; iintro Ha0
  iapply (load_own c) $$ HCr0; iintro HCr0
  iapply (load_hd c) $$ Hr4; iintro Hr4
  iapply (load_own c) $$ Ha0; iintro Ha0
  ihave Ha0 := (own_any c) $$ Ha0
  iapply (store_any c (v := (out0 Xs Ws As Bs c)) rfl) $$ Ha0; iintro Ha0
  iapply (copy_step (cp0 Xs Ws As Bs) c rfl) $$ [HY0 Ha0 Ho0]
  · iframe HY0 Ha0 Ho0
  iintro HP0
  iapply (done c)
  iapply Hk
  iframe HO HvS11 Hz4 HvR11 Hr4 HCr0 HP0

/-- Waits on channels 5 and 12. -/
theorem part18 (c : Dev nD) (a4 : BitVec 32) (Q : _ → sProp 𝕄) :
    iprop((Lev ∗ Sent Xs Ws As Bs c 5 ∗ Owing c (owed c []) ∗ Due Xs Ws As Bs c 5 ∗ Sent Xs Ws As Bs c 12 ∗ Due Xs Ws As Bs c 12 ∗ Own c (accM.slice g1 (fun _ => rfl)) (fun j => acc1 Xs Ws c (g1.emb j)))
        ∗ ((Owing c (owed c []) ∗ semVal (sendCell c 5) 0 ∗ Any (F := F) c (sCsM.slice g1 (fun _ => rfl)) ∗ semVal (recvCell c 5) 0 ∗ Own c (sCrM.slice g1 (fun _ => rfl)) (dC1 Xs Ws (peer c 5)) ∗ semVal (sendCell c 12) 0 ∗ Any (F := F) c (zsM.slice z5 (fun _ => rfl)) ∗ semVal (recvCell c 12) 0 ∗ Own c (zrM.slice z5 (fun _ => rfl)) (zC1 Xs Ws (peer c 12)) ∗ Own c (accM.slice g1 (fun _ => rfl)) (fun j => acc1 Xs Ws c (g1.emb j)))
            -∗ Q (fun j => acc1 Xs Ws c (g1.emb j))))
      ⊢ WP c ((at₀ (k0_part18 (F := F)) :) a4) Q := by
  simp only [k0_part18_eq_skeleton]; unfold k0_part18_skel
  simp only [Prog.lift, Prog.bind_op, Prog.bind_ret, Prog.pure_eq_ret]
  iintro ⟨⟨#Hlev, HS5, HO, HD5, HS12, HD12, Ha1⟩, Hk⟩
  iapply (wait_send_step (ch5 Xs Ws) c [] rfl) $$ [HS5 HO]
  · iframe HS5 Hlev HO
  iintro ⟨HvS5, HCs1, HO⟩
  iapply (wait_recv_step (ch5 Xs Ws) c [] (by decide) rfl) $$ [HD5 HO]
  · iframe HD5 Hlev HO
  iintro ⟨HvR5, HCr1, HO⟩
  iapply (wait_send_step (ch12 Xs Ws) c [] rfl) $$ [HS12 HO]
  · iframe HS12 Hlev HO
  iintro ⟨HvS12, Hz5, HO⟩
  iapply (wait_recv_step (ch12 Xs Ws) c [] (by decide) rfl) $$ [HD12 HO]
  · iframe HD12 Hlev HO
  iintro ⟨HvR12, Hr5, HO⟩
  iapply (load_own c) $$ Ha1; iintro Ha1
  iapply (done c)
  iapply Hk
  iframe HO HvS5 HCs1 HvR5 HCr1 HvS12 Hz5 HvR12 Hr5 Ha1

/-- The second row group of the result; waits on channel 6. -/
theorem part19 (c : Dev nD) (a4 : BitVec 32) (Q : PUnit → sProp 𝕄) :
    iprop((Lev ∗ Own c (sCrM.slice g1 (fun _ => rfl)) (dC1 Xs Ws (peer c 5)) ∗ Own c (zrM.slice z5 (fun _ => rfl)) (zC1 Xs Ws (peer c 12)) ∗ Own c (accM.slice g1 (fun _ => rfl)) (fun j => acc1 Xs Ws c (g1.emb j)) ∗ CopyReady Xs Ws As Bs c 1 ∗ Any (F := F) c (outM.slice g1 (fun _ => rfl)) ∗ Sent Xs Ws As Bs c 6 ∗ Owing c (owed c []) ∗ Due Xs Ws As Bs c 6)
        ∗ ((Own c (sCrM.slice g1 (fun _ => rfl)) (dC1 Xs Ws (peer c 5)) ∗ Own c (zrM.slice z5 (fun _ => rfl)) (zC1 Xs Ws (peer c 12)) ∗ Copying Xs Ws As Bs c 1 ∗ Owing c (owed c []) ∗ semVal (sendCell c 6) 0 ∗ Any (F := F) c (sCsM.slice g2 (fun _ => rfl)) ∗ semVal (recvCell c 6) 0 ∗ Own c (sCrM.slice g2 (fun _ => rfl)) (dC2 Xs Ws (peer c 6)))
            -∗ Q ⟨⟩))
      ⊢ WP c ((at₀ (k0_part19 (F := F)) :) a4 (scl As Bs c) (fun j => acc1 Xs Ws c (g1.emb j))) Q := by
  simp only [k0_part19_eq_skeleton]; unfold k0_part19_skel
  simp only [Prog.lift, Prog.bind_op, Prog.bind_ret, Prog.pure_eq_ret]
  iintro ⟨⟨#Hlev, HCr1, Hr5, Ha1, HY1, Ho1, HS6, HO, HD6⟩, Hk⟩
  iapply (load_own c) $$ HCr1; iintro HCr1
  iapply (load_hd c) $$ Hr5; iintro Hr5
  iapply (load_own c) $$ Ha1; iintro Ha1
  ihave Ha1 := (own_any c) $$ Ha1
  iapply (store_any c (v := (out1 Xs Ws As Bs c)) rfl) $$ Ha1; iintro Ha1
  iapply (copy_step (cp1 Xs Ws As Bs) c rfl) $$ [HY1 Ha1 Ho1]
  · iframe HY1 Ha1 Ho1
  iintro HP1
  iapply (wait_send_step (ch6 Xs Ws) c [] rfl) $$ [HS6 HO]
  · iframe HS6 Hlev HO
  iintro ⟨HvS6, HCs2, HO⟩
  iapply (wait_recv_step (ch6 Xs Ws) c [] (by decide) rfl) $$ [HD6 HO]
  · iframe HD6 Hlev HO
  iintro ⟨HvR6, HCr2, HO⟩
  iapply (done c)
  iapply Hk
  iframe HCr1 Hr5 HP1 HO HvS6 HCs2 HvR6 HCr2

/-- The third row group of the result. -/
theorem part20 (c : Dev nD) (a4 : BitVec 32) (Q : PUnit → sProp 𝕄) :
    iprop((Lev ∗ Sent Xs Ws As Bs c 13 ∗ Owing c (owed c []) ∗ Due Xs Ws As Bs c 13 ∗ Own c (accM.slice g2 (fun _ => rfl)) (fun j => acc1 Xs Ws c (g2.emb j)) ∗ Own c (sCrM.slice g2 (fun _ => rfl)) (dC2 Xs Ws (peer c 6)) ∗ CopyReady Xs Ws As Bs c 2 ∗ Any (F := F) c (outM.slice g2 (fun _ => rfl)))
        ∗ ((Owing c (owed c []) ∗ semVal (sendCell c 13) 0 ∗ Any (F := F) c (zsM.slice z6 (fun _ => rfl)) ∗ semVal (recvCell c 13) 0 ∗ Own c (zrM.slice z6 (fun _ => rfl)) (zC2 Xs Ws (peer c 13)) ∗ Own c (sCrM.slice g2 (fun _ => rfl)) (dC2 Xs Ws (peer c 6)) ∗ Copying Xs Ws As Bs c 2)
            -∗ Q ⟨⟩))
      ⊢ WP c ((at₀ (k0_part20 (F := F)) :) a4 (scl As Bs c)) Q := by
  simp only [k0_part20_eq_skeleton]; unfold k0_part20_skel
  simp only [Prog.lift, Prog.bind_op, Prog.bind_ret, Prog.pure_eq_ret]
  iintro ⟨⟨#Hlev, HS13, HO, HD13, Ha2, HCr2, HY2, Ho2⟩, Hk⟩
  iapply (wait_send_step (ch13 Xs Ws) c [] rfl) $$ [HS13 HO]
  · iframe HS13 Hlev HO
  iintro ⟨HvS13, Hz6, HO⟩
  iapply (wait_recv_step (ch13 Xs Ws) c [] (by decide) rfl) $$ [HD13 HO]
  · iframe HD13 Hlev HO
  iintro ⟨HvR13, Hr6, HO⟩
  iapply (load_own c) $$ Ha2; iintro Ha2
  iapply (load_own c) $$ HCr2; iintro HCr2
  iapply (load_hd c) $$ Hr6; iintro Hr6
  iapply (load_own c) $$ Ha2; iintro Ha2
  ihave Ha2 := (own_any c) $$ Ha2
  iapply (store_any c (v := (out2 Xs Ws As Bs c)) rfl) $$ Ha2; iintro Ha2
  iapply (copy_step (cp2 Xs Ws As Bs) c rfl) $$ [HY2 Ha2 Ho2]
  · iframe HY2 Ha2 Ho2
  iintro HP2
  iapply (done c)
  iapply Hk
  iframe HO HvS13 Hz6 HvR13 Hr6 HCr2 HP2

end Cert.Exchange

end
-- ==== Proof.Parts3.lean ====
/-
# The body's parts of the second hop
-/
module

public import proofs.«01_k».proof.Proof.Channels

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {Xs : Dev nD → Vec F S4096x1024 .fp8e5m2} {Ws : Dev nD → Vec F S1024x2048 .fp8e5m2}
variable {As Bs : Dev nD → Vec F S1 .f32}

/-- Its transfer; the second row group for `p2`; wait on channel 1. -/
theorem part9 (c : Dev nD) (a4 : BitVec 32) (a8 : BitVec 32) (b1 : BitVec 32) (b2 : BitVec 32) (Q : PUnit → sProp 𝕄) :
    iprop((Lev ∗ Ready Xs Ws As Bs c 4 ∗ Own c (sCsM.slice g0 (fun _ => rfl)) (dC0 Xs Ws c) ∗ Landing (F := F) (p2 c) 4 ∗ Owing c (owed c [4, 11, 5, 12, 6, 13]) ∗ Ready Xs Ws As Bs c 11 ∗ Own c (zsM.slice z4 (fun _ => rfl)) (zC0 Xs Ws c) ∗ Landing (F := F) (p2 c) 11 ∗ Own c xM (Xs c) ∗ Any (F := F) c (fwdM.slice g1 (fun _ => rfl)) ∗ Sent Xs Ws As Bs c 1)
        ∗ ((Owing c (owed c [5, 12, 6, 13]) ∗ Sent Xs Ws As Bs c 4 ∗ Sent Xs Ws As Bs c 11 ∗ Own c xM (Xs c) ∗ Own c (fwdM.slice g1 (fun _ => rfl)) (f1 Xs Ws c) ∗ semVal (sendCell c 1) 0 ∗ Any (F := F) c (sAsM.slice g1 (fun _ => rfl)))
            -∗ Q ⟨⟩))
      ⊢ WP c ((at₀ (k0_part9 (F := F)) :) c a4 (w6 Ws c) a8 b1 b2) Q := by
  simp only [k0_part9_eq_skeleton]; unfold k0_part9_skel
  simp only [Prog.lift, Prog.bind_op, Prog.bind_ret, Prog.pure_eq_ret]
  iintro ⟨⟨#Hlev, HR4, HCs0, HL4, HO, HR11, Hz4, HL11, Hx, Hf1, HS1⟩, Hk⟩
  iapply (send_step (ch4 Xs Ws) c [11, 5, 12, 6, 13] (dev11_eq c) rfl rfl) $$ [HR4 HCs0 HL4 HO]
  · iframe HR4 HCs0 HL4 HO
  iintro ⟨HS4, HO⟩
  iapply (send_step (ch11 Xs Ws) c [5, 12, 6, 13] (dev12_eq c) rfl rfl) $$ [HR11 Hz4 HL11 HO]
  · iframe HR11 Hz4 HL11 HO
  iintro ⟨HS11, HO⟩
  iapply (load_part c (w := xF1 Xs c) rfl) $$ Hx; iintro Hx
  iapply (load_any c) $$ Hf1; iintro %_ Hf1
  iapply (store_any c (v := (f1 Xs Ws c)) rfl) $$ Hf1; iintro Hf1
  iapply (wait_send_step (ch1 Xs Ws) c [5, 12, 6, 13] rfl) $$ [HS1 HO]
  · iframe HS1 Hlev HO
  iintro ⟨HvS1, HAs1, HO⟩
  iapply (done c)
  iapply Hk
  iframe HO HS4 HS11 Hx Hf1 HvS1 HAs1

/-- Waits on channels 1 and 8; what arrived added. -/
theorem part10 (c : Dev nD) (a3 : BitVec 32) (Q : _ → sProp 𝕄) :
    iprop((Lev ∗ Due Xs Ws As Bs c 1 ∗ Owing c (owed c [5, 12, 6, 13]) ∗ Sent Xs Ws As Bs c 8 ∗ Due Xs Ws As Bs c 8 ∗ Own c (fwdM.slice g1 (fun _ => rfl)) (f1 Xs Ws c))
        ∗ ((Owing c (owed c [5, 12, 6, 13]) ∗ semVal (recvCell c 1) 0 ∗ Own c (sArM.slice g1 (fun _ => rfl)) (dA1 Xs Ws (peer c 1)) ∗ semVal (sendCell c 8) 0 ∗ Any (F := F) c (zsM.slice z1 (fun _ => rfl)) ∗ semVal (recvCell c 8) 0 ∗ Own c (zrM.slice z1 (fun _ => rfl)) (zA1 Xs Ws (peer c 8)) ∗ Own c (fwdM.slice g1 (fun _ => rfl)) (f1 Xs Ws c))
            -∗ Q (t1 Xs Ws c)))
      ⊢ WP c ((at₀ (k0_part10 (F := F)) :) a3) Q := by
  simp only [k0_part10_eq_skeleton]; unfold k0_part10_skel
  simp only [Prog.lift, Prog.bind_op, Prog.bind_ret, Prog.pure_eq_ret]
  iintro ⟨⟨#Hlev, HD1, HO, HS8, HD8, Hf1⟩, Hk⟩
  iapply (wait_recv_step (ch1 Xs Ws) c [5, 12, 6, 13] (by decide) rfl) $$ [HD1 HO]
  · iframe HD1 Hlev HO
  iintro ⟨HvR1, HAr1, HO⟩
  iapply (wait_send_step (ch8 Xs Ws) c [5, 12, 6, 13] rfl) $$ [HS8 HO]
  · iframe HS8 Hlev HO
  iintro ⟨HvS8, Hz1, HO⟩
  iapply (wait_recv_step (ch8 Xs Ws) c [5, 12, 6, 13] (by decide) rfl) $$ [HD8 HO]
  · iframe HD8 Hlev HO
  iintro ⟨HvR8, Hr1, HO⟩
  iapply (load_own c) $$ Hf1; iintro Hf1
  iapply (load_own c) $$ HAr1; iintro HAr1
  iapply (load_hd c) $$ Hr1; iintro Hr1
  rw [show k0_pay28 (f1 Xs Ws c) (dA1 Xs Ws (peer c 1)) (hd (zA1 Xs Ws (peer c 8))) = t1 Xs Ws c from rfl]
  iapply (done c)
  iapply Hk
  iframe HO HvR1 HAr1 HvS8 Hz1 HvR8 Hr1 Hf1

/-- The sum compressed and transferred. -/
theorem part11 (c : Dev nD) (a4 : BitVec 32) (Q : PUnit → sProp 𝕄) :
    iprop((Any (F := F) c (sCsM.slice g1 (fun _ => rfl)) ∗ Any (F := F) c (zsM.slice z5 (fun _ => rfl)) ∗ Ready Xs Ws As Bs c 5 ∗ Landing (F := F) (p2 c) 5 ∗ Owing c (owed c [5, 12, 6, 13]))
        ∗ ((Own c (zsM.slice z5 (fun _ => rfl)) (zC1 Xs Ws c) ∗ Owing c (owed c [12, 6, 13]) ∗ Sent Xs Ws As Bs c 5)
            -∗ Q ⟨⟩))
      ⊢ WP c ((at₀ (k0_part11 (F := F)) :) c a4 (t1 Xs Ws c)) Q := by
  simp only [k0_part11_eq_skeleton]; unfold k0_part11_skel
  simp only [Prog.lift, Prog.bind_op, Prog.bind_ret, Prog.pure_eq_ret]
  iintro ⟨⟨HCs1, Hz5, HR5, HL5, HO⟩, Hk⟩
  iapply (load_any c) $$ HCs1; iintro %_ HCs1
  iapply (store_any c (v := (dC1 Xs Ws c)) rfl) $$ HCs1; iintro HCs1
  iapply (load_any c) $$ Hz5; iintro %_ Hz5
  iapply (store_any c (v := (zC1 Xs Ws c)) rfl) $$ Hz5; iintro Hz5
  iapply (send_step (ch5 Xs Ws) c [12, 6, 13] (dev13_eq c) rfl rfl) $$ [HR5 HCs1 HL5 HO]
  · iframe HR5 HCs1 HL5 HO
  iintro ⟨HS5, HO⟩
  iapply (done c)
  iapply Hk
  iframe Hz5 HO HS5

/-- Its scale; the third row group for `p2`; waits on channel 2. -/
theorem part12 (c : Dev nD) (a3 : BitVec 32) (a8 : BitVec 32) (Q : PUnit → sProp 𝕄) :
    iprop((Lev ∗ Ready Xs Ws As Bs c 12 ∗ Own c (zsM.slice z5 (fun _ => rfl)) (zC1 Xs Ws c) ∗ Landing (F := F) (p2 c) 12 ∗ Owing c (owed c [12, 6, 13]) ∗ Own c xM (Xs c) ∗ Any (F := F) c (fwdM.slice g2 (fun _ => rfl)) ∗ Sent Xs Ws As Bs c 2 ∗ Due Xs Ws As Bs c 2)
        ∗ ((Owing c (owed c [6, 13]) ∗ Sent Xs Ws As Bs c 12 ∗ Own c xM (Xs c) ∗ Own c (fwdM.slice g2 (fun _ => rfl)) (f2 Xs Ws c) ∗ semVal (sendCell c 2) 0 ∗ Any (F := F) c (sAsM.slice g2 (fun _ => rfl)) ∗ semVal (recvCell c 2) 0 ∗ Own c (sArM.slice g2 (fun _ => rfl)) (dA2 Xs Ws (peer c 2)))
            -∗ Q ⟨⟩))
      ⊢ WP c ((at₀ (k0_part12 (F := F)) :) c a3 (w6 Ws c) a8) Q := by
  simp only [k0_part12_eq_skeleton]; unfold k0_part12_skel
  simp only [Prog.lift, Prog.bind_op, Prog.bind_ret, Prog.pure_eq_ret]
  iintro ⟨⟨#Hlev, HR12, Hz5, HL12, HO, Hx, Hf2, HS2, HD2⟩, Hk⟩
  iapply (send_step (ch12 Xs Ws) c [6, 13] (dev14_eq c) rfl rfl) $$ [HR12 Hz5 HL12 HO]
  · iframe HR12 Hz5 HL12 HO
  iintro ⟨HS12, HO⟩
  iapply (load_part c (w := xF2 Xs c) rfl) $$ Hx; iintro Hx
  iapply (load_any c) $$ Hf2; iintro %_ Hf2
  iapply (store_any c (v := (f2 Xs Ws c)) rfl) $$ Hf2; iintro Hf2
  iapply (wait_send_step (ch2 Xs Ws) c [6, 13] rfl) $$ [HS2 HO]
  · iframe HS2 Hlev HO
  iintro ⟨HvS2, HAs2, HO⟩
  iapply (wait_recv_step (ch2 Xs Ws) c [6, 13] (by decide) rfl) $$ [HD2 HO]
  · iframe HD2 Hlev HO
  iintro ⟨HvR2, HAr2, HO⟩
  iapply (done c)
  iapply Hk
  iframe HO HS12 Hx Hf2 HvS2 HAs2 HvR2 HAr2

/-- Waits on channel 9; what arrived added. -/
theorem part13 (c : Dev nD) (a3 : BitVec 32) (Q : _ → sProp 𝕄) :
    iprop((Lev ∗ Sent Xs Ws As Bs c 9 ∗ Owing c (owed c [6, 13]) ∗ Due Xs Ws As Bs c 9 ∗ Own c (fwdM.slice g2 (fun _ => rfl)) (f2 Xs Ws c) ∗ Own c (sArM.slice g2 (fun _ => rfl)) (dA2 Xs Ws (peer c 2)))
        ∗ ((Owing c (owed c [6, 13]) ∗ semVal (sendCell c 9) 0 ∗ Any (F := F) c (zsM.slice z2 (fun _ => rfl)) ∗ semVal (recvCell c 9) 0 ∗ Own c (zrM.slice z2 (fun _ => rfl)) (zA2 Xs Ws (peer c 9)) ∗ Own c (fwdM.slice g2 (fun _ => rfl)) (f2 Xs Ws c) ∗ Own c (sArM.slice g2 (fun _ => rfl)) (dA2 Xs Ws (peer c 2)))
            -∗ Q ⟨(k0_pay34 (f2 Xs Ws c) (dA2 Xs Ws (peer c 2)) (hd (zA2 Xs Ws (peer c 9)))), (k0_pay35 (f2 Xs Ws c) (dA2 Xs Ws (peer c 2)) (hd (zA2 Xs Ws (peer c 9))))⟩))
      ⊢ WP c ((at₀ (k0_part13 (F := F)) :) a3) Q := by
  simp only [k0_part13_eq_skeleton]; unfold k0_part13_skel
  simp only [Prog.lift, Prog.bind_op, Prog.bind_ret, Prog.pure_eq_ret]
  iintro ⟨⟨#Hlev, HS9, HO, HD9, Hf2, HAr2⟩, Hk⟩
  iapply (wait_send_step (ch9 Xs Ws) c [6, 13] rfl) $$ [HS9 HO]
  · iframe HS9 Hlev HO
  iintro ⟨HvS9, Hz2, HO⟩
  iapply (wait_recv_step (ch9 Xs Ws) c [6, 13] (by decide) rfl) $$ [HD9 HO]
  · iframe HD9 Hlev HO
  iintro ⟨HvR9, Hr2, HO⟩
  iapply (load_own c) $$ Hf2; iintro Hf2
  iapply (load_own c) $$ HAr2; iintro HAr2
  iapply (load_hd c) $$ Hr2; iintro Hr2
  iapply (done c)
  iapply Hk
  iframe HO HvS9 Hz2 HvR9 Hr2 Hf2 HAr2

/-- The sum compressed and transferred; the device's own product. -/
theorem part14 (c : Dev nD) (a2 : BitVec 32) (a4 : BitVec 32) (Q : _ → sProp 𝕄) :
    iprop((Any (F := F) c (sCsM.slice g2 (fun _ => rfl)) ∗ Any (F := F) c (zsM.slice z6 (fun _ => rfl)) ∗ Ready Xs Ws As Bs c 6 ∗ Landing (F := F) (p2 c) 6 ∗ Owing c (owed c [6, 13]) ∗ Ready Xs Ws As Bs c 13 ∗ Landing (F := F) (p2 c) 13 ∗ Own c xM (Xs c) ∗ Any (F := F) c (accM.slice gA (fun _ => rfl)))
        ∗ (∀ w, (Owing c (owed c []) ∗ Sent Xs Ws As Bs c 6 ∗ Sent Xs Ws As Bs c 13 ∗ Own c xM (Xs c) ∗ Any (F := F) c (accM.slice gA (fun _ => rfl)))
            -∗ Q ⟨k0_pay38 (w6 Ws c) (xO Xs c), w⟩))
      ⊢ WP c ((at₀ (k0_part14 (F := F)) :) c a2 a4 (w6 Ws c) (k0_pay34 (f2 Xs Ws c) (dA2 Xs Ws (peer c 2)) (hd (zA2 Xs Ws (peer c 9)))) (k0_pay35 (f2 Xs Ws c) (dA2 Xs Ws (peer c 2)) (hd (zA2 Xs Ws (peer c 9))))) Q := by
  simp only [k0_part14_eq_skeleton]; unfold k0_part14_skel
  simp only [Prog.lift, Prog.bind_op, Prog.bind_ret, Prog.pure_eq_ret]
  iintro ⟨⟨HCs2, Hz6, HR6, HL6, HO, HR13, HL13, Hx, Ha⟩, Hk⟩
  iapply (load_any c) $$ HCs2; iintro %_ HCs2
  iapply (store_any c (v := (dC2 Xs Ws c)) rfl) $$ HCs2; iintro HCs2
  iapply (load_any c) $$ Hz6; iintro %_ Hz6
  iapply (store_any c (v := (zC2 Xs Ws c)) rfl) $$ Hz6; iintro Hz6
  iapply (send_step (ch6 Xs Ws) c [13] (dev15_eq c) rfl rfl) $$ [HR6 HCs2 HL6 HO]
  · iframe HR6 HCs2 HL6 HO
  iintro ⟨HS6, HO⟩
  iapply (send_step (ch13 Xs Ws) c [] (dev16_eq c) rfl rfl) $$ [HR13 Hz6 HL13 HO]
  · iframe HR13 Hz6 HL13 HO
  iintro ⟨HS13, HO⟩
  iapply (load_part c (w := xO Xs c) rfl) $$ Hx; iintro Hx
  iapply (load_any c) $$ Ha; iintro %_ Ha
  iapply (done c)
  iapply Hk
  iframe HO HS6 HS13 Hx Ha

end Cert.Exchange

end
-- ==== Proof.Parts2.lean ====
/-
# The body's parts up to the second hop's first transfer
-/
module

public import proofs.«01_k».proof.Proof.Channels

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {Xs : Dev nD → Vec F S4096x1024 .fp8e5m2} {Ws : Dev nD → Vec F S1024x2048 .fp8e5m2}
variable {As Bs : Dev nD → Vec F S1 .f32}

/-- The rows `[256, 768)` for `p1`'s partner, compressed; their transfer. -/
theorem part3 (c : Dev nD) (a3 : BitVec 32) (Q : _ → sProp 𝕄) :
    iprop((Own c xM (Xs c) ∗ Any (F := F) c (sAsM.slice g1 (fun _ => rfl)) ∗ Any (F := F) c (zsM.slice z1 (fun _ => rfl)) ∗ Ready Xs Ws As Bs c 1 ∗ Landing (F := F) (p1 c) 1 ∗ Owing c (owed c [1, 8, 2, 9, 3, 10, 4, 11, 5, 12, 6, 13]))
        ∗ (∀ b1 b2, (Own c xM (Xs c) ∗ Own c (zsM.slice z1 (fun _ => rfl)) (zA1 Xs Ws c) ∗ Owing c (owed c [8, 2, 9, 3, 10, 4, 11, 5, 12, 6, 13]) ∗ Sent Xs Ws As Bs c 1)
            -∗ Q ⟨b1, b2⟩))
      ⊢ WP c ((at₀ (k0_part3 (F := F)) :) c a3 (w6 Ws c)) Q := by
  simp only [k0_part3_eq_skeleton]; unfold k0_part3_skel
  simp only [Prog.lift, Prog.bind_op, Prog.bind_ret, Prog.pure_eq_ret]
  iintro ⟨⟨Hx, HAs1, Hz1, HR1, HL1, HO⟩, Hk⟩
  iapply (load_part c (w := xA1 Xs c) rfl) $$ Hx; iintro Hx
  iapply (load_any c) $$ HAs1; iintro %_ HAs1
  iapply (store_any c (v := (dA1 Xs Ws c)) rfl) $$ HAs1; iintro HAs1
  iapply (load_any c) $$ Hz1; iintro %_ Hz1
  iapply (store_any c (v := (zA1 Xs Ws c)) rfl) $$ Hz1; iintro Hz1
  iapply (send_step (ch1 Xs Ws) c [8, 2, 9, 3, 10, 4, 11, 5, 12, 6, 13] (dev5_eq c) rfl rfl) $$ [HR1 HAs1 HL1 HO]
  · iframe HR1 HAs1 HL1 HO
  iintro ⟨HS1, HO⟩
  iapply (done c)
  iapply Hk
  iframe Hx Hz1 HO HS1

/-- Their scale's transfer; the rows `[768, 1024)`, compressed. -/
theorem part4 (c : Dev nD) (a7 : BitVec 32) (b1 : BitVec 32) (b2 : BitVec 32) (Q : PUnit → sProp 𝕄) :
    iprop((Ready Xs Ws As Bs c 8 ∗ Own c (zsM.slice z1 (fun _ => rfl)) (zA1 Xs Ws c) ∗ Landing (F := F) (p1 c) 8 ∗ Owing c (owed c [8, 2, 9, 3, 10, 4, 11, 5, 12, 6, 13]) ∗ Own c xM (Xs c) ∗ Any (F := F) c (sAsM.slice g2 (fun _ => rfl)) ∗ Any (F := F) c (zsM.slice z2 (fun _ => rfl)))
        ∗ ((Owing c (owed c [2, 9, 3, 10, 4, 11, 5, 12, 6, 13]) ∗ Sent Xs Ws As Bs c 8 ∗ Own c xM (Xs c) ∗ Own c (sAsM.slice g2 (fun _ => rfl)) (dA2 Xs Ws c) ∗ Own c (zsM.slice z2 (fun _ => rfl)) (zA2 Xs Ws c))
            -∗ Q ⟨⟩))
      ⊢ WP c ((at₀ (k0_part4 (F := F)) :) c (w6 Ws c) a7 b1 b2) Q := by
  simp only [k0_part4_eq_skeleton]; unfold k0_part4_skel
  simp only [Prog.lift, Prog.bind_op, Prog.bind_ret, Prog.pure_eq_ret]
  iintro ⟨⟨HR8, Hz1, HL8, HO, Hx, HAs2, Hz2⟩, Hk⟩
  iapply (send_step (ch8 Xs Ws) c [2, 9, 3, 10, 4, 11, 5, 12, 6, 13] (dev6_eq c) rfl rfl) $$ [HR8 Hz1 HL8 HO]
  · iframe HR8 Hz1 HL8 HO
  iintro ⟨HS8, HO⟩
  iapply (load_part c (w := xA2 Xs c) rfl) $$ Hx; iintro Hx
  iapply (load_any c) $$ HAs2; iintro %_ HAs2
  iapply (store_any c (v := (dA2 Xs Ws c)) rfl) $$ HAs2; iintro HAs2
  iapply (load_any c) $$ Hz2; iintro %_ Hz2
  iapply (store_any c (v := (zA2 Xs Ws c)) rfl) $$ Hz2; iintro Hz2
  iapply (done c)
  iapply Hk
  iframe HO HS8 Hx HAs2 Hz2

/-- Their transfer; the product for `p1` itself. -/
theorem part5 (c : Dev nD) (a3 : BitVec 32) (Q : _ → sProp 𝕄) :
    iprop((Ready Xs Ws As Bs c 2 ∗ Own c (sAsM.slice g2 (fun _ => rfl)) (dA2 Xs Ws c) ∗ Landing (F := F) (p1 c) 2 ∗ Owing c (owed c [2, 9, 3, 10, 4, 11, 5, 12, 6, 13]) ∗ Ready Xs Ws As Bs c 9 ∗ Own c (zsM.slice z2 (fun _ => rfl)) (zA2 Xs Ws c) ∗ Landing (F := F) (p1 c) 9 ∗ Own c xM (Xs c))
        ∗ ((Owing c (owed c [3, 10, 4, 11, 5, 12, 6, 13]) ∗ Sent Xs Ws As Bs c 2 ∗ Sent Xs Ws As Bs c 9 ∗ Own c xM (Xs c))
            -∗ Q ⟨k0_pay16 (w6 Ws c) (xB Xs c), k0_pay17 (w6 Ws c) (xB Xs c), k0_pay18⟩))
      ⊢ WP c ((at₀ (k0_part5 (F := F)) :) c a3 (w6 Ws c)) Q := by
  simp only [k0_part5_eq_skeleton]; unfold k0_part5_skel
  simp only [Prog.lift, Prog.bind_op, Prog.bind_ret, Prog.pure_eq_ret]
  iintro ⟨⟨HR2, HAs2, HL2, HO, HR9, Hz2, HL9, Hx⟩, Hk⟩
  iapply (send_step (ch2 Xs Ws) c [9, 3, 10, 4, 11, 5, 12, 6, 13] (dev7_eq c) rfl rfl) $$ [HR2 HAs2 HL2 HO]
  · iframe HR2 HAs2 HL2 HO
  iintro ⟨HS2, HO⟩
  iapply (send_step (ch9 Xs Ws) c [3, 10, 4, 11, 5, 12, 6, 13] (dev8_eq c) rfl rfl) $$ [HR9 Hz2 HL9 HO]
  · iframe HR9 Hz2 HL9 HO
  iintro ⟨HS9, HO⟩
  iapply (load_part c (w := xB Xs c) rfl) $$ Hx; iintro Hx
  iapply (done c)
  iapply Hk
  iframe HO HS2 HS9 Hx

/-- It compressed and transferred. -/
theorem part6 (c : Dev nD) (a3 : BitVec 32) (a8 : BitVec 32) (Q : _ → sProp 𝕄) :
    iprop((Any (F := F) c (sBsM.slice gA (fun _ => rfl)) ∗ Any (F := F) c (zsM.slice z3 (fun _ => rfl)) ∗ Ready Xs Ws As Bs c 3 ∗ Landing (F := F) (p1 c) 3 ∗ Owing c (owed c [3, 10, 4, 11, 5, 12, 6, 13]) ∗ Ready Xs Ws As Bs c 10 ∗ Landing (F := F) (p1 c) 10 ∗ Own c xM (Xs c))
        ∗ ((Owing c (owed c [4, 11, 5, 12, 6, 13]) ∗ Sent Xs Ws As Bs c 3 ∗ Sent Xs Ws As Bs c 10 ∗ Own c xM (Xs c))
            -∗ Q (k0_pay21 (xF0 Xs c))))
      ⊢ WP c ((at₀ (k0_part6 (F := F)) :) c a3 a8 (k0_pay16 (w6 Ws c) (xB Xs c)) (k0_pay17 (w6 Ws c) (xB Xs c)) k0_pay18) Q := by
  simp only [k0_part6_eq_skeleton]; unfold k0_part6_skel
  simp only [Prog.lift, Prog.bind_op, Prog.bind_ret, Prog.pure_eq_ret]
  iintro ⟨⟨HBs, Hz3, HR3, HL3, HO, HR10, HL10, Hx⟩, Hk⟩
  iapply (load_any c) $$ HBs; iintro %_ HBs
  iapply (store_any c (v := (dB Xs Ws c)) rfl) $$ HBs; iintro HBs
  iapply (load_any c) $$ Hz3; iintro %_ Hz3
  iapply (store_any c (v := (zB Xs Ws c)) rfl) $$ Hz3; iintro Hz3
  iapply (send_step (ch3 Xs Ws) c [10, 4, 11, 5, 12, 6, 13] (dev9_eq c) rfl rfl) $$ [HR3 HBs HL3 HO]
  · iframe HR3 HBs HL3 HO
  iintro ⟨HS3, HO⟩
  iapply (send_step (ch10 Xs Ws) c [4, 11, 5, 12, 6, 13] (dev10_eq c) rfl rfl) $$ [HR10 Hz3 HL10 HO]
  · iframe HR10 Hz3 HL10 HO
  iintro ⟨HS10, HO⟩
  iapply (load_part c (w := xF0 Xs c) rfl) $$ Hx; iintro Hx
  iapply (done c)
  iapply Hk
  iframe HO HS3 HS10 Hx

/-- The first row group for `p2`; waits on channels 0 and 7. -/
theorem part7 (c : Dev nD) (a3 : BitVec 32) (Q : PUnit → sProp 𝕄) :
    iprop((Lev ∗ Any (F := F) c (fwdM.slice g0 (fun _ => rfl)) ∗ Sent Xs Ws As Bs c 0 ∗ Owing c (owed c [4, 11, 5, 12, 6, 13]) ∗ Due Xs Ws As Bs c 0 ∗ Sent Xs Ws As Bs c 7)
        ∗ ((Own c (fwdM.slice g0 (fun _ => rfl)) (f0 Xs Ws c) ∗ Owing c (owed c [4, 11, 5, 12, 6, 13]) ∗ semVal (sendCell c 0) 0 ∗ Any (F := F) c (sAsM.slice g0 (fun _ => rfl)) ∗ semVal (recvCell c 0) 0 ∗ Own c (sArM.slice g0 (fun _ => rfl)) (dA0 Xs Ws (peer c 0)) ∗ semVal (sendCell c 7) 0 ∗ Any (F := F) c (zsM.slice z0 (fun _ => rfl)))
            -∗ Q ⟨⟩))
      ⊢ WP c ((at₀ (k0_part7 (F := F)) :) a3 (w6 Ws c) (k0_pay21 (xF0 Xs c))) Q := by
  simp only [k0_part7_eq_skeleton]; unfold k0_part7_skel
  simp only [Prog.lift, Prog.bind_op, Prog.bind_ret, Prog.pure_eq_ret]
  iintro ⟨⟨#Hlev, Hf0, HS0, HO, HD0, HS7⟩, Hk⟩
  iapply (load_any c) $$ Hf0; iintro %_ Hf0
  iapply (store_any c (v := (f0 Xs Ws c)) rfl) $$ Hf0; iintro Hf0
  iapply (wait_send_step (ch0 Xs Ws) c [4, 11, 5, 12, 6, 13] rfl) $$ [HS0 HO]
  · iframe HS0 Hlev HO
  iintro ⟨HvS0, HAs0, HO⟩
  iapply (wait_recv_step (ch0 Xs Ws) c [4, 11, 5, 12, 6, 13] (by decide) rfl) $$ [HD0 HO]
  · iframe HD0 Hlev HO
  iintro ⟨HvR0, HAr0, HO⟩
  iapply (wait_send_step (ch7 Xs Ws) c [4, 11, 5, 12, 6, 13] rfl) $$ [HS7 HO]
  · iframe HS7 Hlev HO
  iintro ⟨HvS7, Hz0, HO⟩
  iapply (done c)
  iapply Hk
  iframe Hf0 HO HvS0 HAs0 HvR0 HAr0 HvS7 Hz0

/-- What arrived added, compressed again. -/
theorem part8 (c : Dev nD) (a4 : BitVec 32) (Q : _ → sProp 𝕄) :
    iprop((Lev ∗ Due Xs Ws As Bs c 7 ∗ Owing c (owed c [4, 11, 5, 12, 6, 13]) ∗ Own c (fwdM.slice g0 (fun _ => rfl)) (f0 Xs Ws c) ∗ Own c (sArM.slice g0 (fun _ => rfl)) (dA0 Xs Ws (peer c 0)) ∗ Any (F := F) c (sCsM.slice g0 (fun _ => rfl)) ∗ Any (F := F) c (zsM.slice z4 (fun _ => rfl)))
        ∗ (∀ b1 b2, (Owing c (owed c [4, 11, 5, 12, 6, 13]) ∗ semVal (recvCell c 7) 0 ∗ Own c (zrM.slice z0 (fun _ => rfl)) (zA0 Xs Ws (peer c 7)) ∗ Own c (fwdM.slice g0 (fun _ => rfl)) (f0 Xs Ws c) ∗ Own c (sArM.slice g0 (fun _ => rfl)) (dA0 Xs Ws (peer c 0)) ∗ Own c (sCsM.slice g0 (fun _ => rfl)) (dC0 Xs Ws c) ∗ Own c (zsM.slice z4 (fun _ => rfl)) (zC0 Xs Ws c))
            -∗ Q ⟨b1, b2⟩))
      ⊢ WP c ((at₀ (k0_part8 (F := F)) :) a4) Q := by
  simp only [k0_part8_eq_skeleton]; unfold k0_part8_skel
  simp only [Prog.lift, Prog.bind_op, Prog.bind_ret, Prog.pure_eq_ret]
  iintro ⟨⟨#Hlev, HD7, HO, Hf0, HAr0, HCs0, Hz4⟩, Hk⟩
  iapply (wait_recv_step (ch7 Xs Ws) c [4, 11, 5, 12, 6, 13] (by decide) rfl) $$ [HD7 HO]
  · iframe HD7 Hlev HO
  iintro ⟨HvR7, Hr0, HO⟩
  iapply (load_own c) $$ Hf0; iintro Hf0
  iapply (load_own c) $$ HAr0; iintro HAr0
  iapply (load_hd c) $$ Hr0; iintro Hr0
  iapply (load_any c) $$ HCs0; iintro %_ HCs0
  iapply (store_any c (v := (dC0 Xs Ws c)) rfl) $$ HCs0; iintro HCs0
  iapply (load_any c) $$ Hz4; iintro %_ Hz4
  iapply (store_any c (v := (zC0 Xs Ws c)) rfl) $$ Hz4; iintro Hz4
  iapply (done c)
  iapply Hk
  iframe HO HvR7 Hr0 Hf0 HAr0 HCs0 Hz4

end Cert.Exchange

end
-- ==== Proof.Body.lean ====
/-
# The body

The parts one after the other: from what a device starts with to what it ends with.
-/
module

public import proofs.«01_k».proof.Proof.Parts1
public import proofs.«01_k».proof.Proof.Pieces
public import proofs.«01_k».proof.Proof.Parts4
public import proofs.«01_k».proof.Proof.Parts3
public import proofs.«01_k».proof.Proof.Parts2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Xs : Dev nD → Vec F S4096x1024 .fp8e5m2) (Ws : Dev nD → Vec F S1024x2048 .fp8e5m2)
variable (As Bs : Dev nD → Vec F S1 .f32)

/-- The buffers of a device other than the operands and the result, at any contents. -/
def Scratch (c : Dev nD) : sProp 𝕄 :=
  iprop(Any (F := F) c accM ∗ Any (F := F) c fwdM ∗ Any (F := F) c sAsM ∗ Any (F := F) c sArM ∗ Any (F := F) c sBsM ∗ Any (F := F) c sBrM
    ∗ Any (F := F) c sCsM ∗ Any (F := F) c sCrM ∗ Any (F := F) c zsM ∗ Any (F := F) c zrM)
/-- The operands. -/
def Operands (c : Dev nD) : sProp 𝕄 := iprop(Own c xM (Xs c) ∗ Own c wM (Ws c) ∗ Own c sxM (As c) ∗ Own c swM (Bs c))
/-- What a device starts the body with, -/
def Start (c : Dev nD) : sProp 𝕄 :=
  iprop(Operands Xs Ws As Bs c ∗ Any (F := F) c outM ∗ Scratch (F := F) c ∗ Lev ∗ BarReady Xs Ws As Bs c ∗ Owing c (O₀ c)
    ∗ BI.bigSep Finset.univ (fun i : Fin 14 => Ready Xs Ws As Bs c i) ∗ BI.bigSep Finset.univ (fun i : Fin 14 => Due Xs Ws As Bs c i)
    ∗ BI.bigSep Finset.univ (fun k : Fin 3 => CopyReady Xs Ws As Bs c k))
/-- and what it ends it with: the result, every semaphore at zero, nothing owed. -/
def Finish (c : Dev nD) : sProp 𝕄 :=
  iprop(Operands Xs Ws As Bs c ∗ Own c outM (result Xs Ws As Bs c) ∗ Scratch (F := F) c ∗ semVal (barCell c) 0 ∗ Owing c (owed c [])
    ∗ BI.bigSep Finset.univ (fun i : Fin 14 => semVal (sendCell c i) 0) ∗ BI.bigSep Finset.univ (fun i : Fin 14 => semVal (recvCell c i) 0)
    ∗ BI.bigSep Finset.univ (fun k : Fin 3 => semVal (copyCell c k) 0))

theorem all14 (Φ : Fin 14 → sProp 𝕄) : BI.bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem all3 (Φ : Fin 3 → sProp 𝕄) : BI.bigSep Finset.univ Φ = iprop(Φ 0 ∗ Φ 1 ∗ Φ 2) :=
  bigSep_univ_eq_bigSepL [0, 1, 2] (by decide) (by decide) Φ

theorem bind_step (c : Dev nD) {α β : Type} {p : Prog (TpuEff nD τ sig (Elt F) Λ₀ .tc) α} {k : α → Prog (TpuEff nD τ sig (Elt F) Λ₀ .tc) β}
    {Q : β → sProp 𝕄} : WP c p (fun a => WP c (k a) Q) ⊢ WP c (p >>= k) Q := by
  show wp _ _ _ _ _ ⊢ wp _ _ _ _ _
  rw [wp_bind]

/-- The buffers transfers land in, as the landing places the handshake hands out. -/
theorem lands (c : Dev nD) : iprop(Any (F := F) c sArM ∗ Any (F := F) c sBrM ∗ Any (F := F) c sCrM ∗ Any (F := F) c zrM) ⊢ iprop(Lands1 (F := F) c ∗ Lands2 (F := F) c) := by
  show _ ⊢ iprop((Any (F := F) c (sArM.slice g0 (fun _ => rfl)) ∗ Any (F := F) c (zrM.slice z0 (fun _ => rfl)) ∗ Any (F := F) c (sArM.slice g1 (fun _ => rfl)) ∗ Any (F := F) c (zrM.slice z1 (fun _ => rfl)) ∗ Any (F := F) c (sArM.slice g2 (fun _ => rfl)) ∗ Any (F := F) c (zrM.slice z2 (fun _ => rfl)) ∗ Any (F := F) c (sBrM.slice gA (fun _ => rfl)) ∗ Any (F := F) c (zrM.slice z3 (fun _ => rfl)))
    ∗ (Any (F := F) c (sCrM.slice g0 (fun _ => rfl)) ∗ Any (F := F) c (zrM.slice z4 (fun _ => rfl)) ∗ Any (F := F) c (sCrM.slice g1 (fun _ => rfl)) ∗ Any (F := F) c (zrM.slice z5 (fun _ => rfl)) ∗ Any (F := F) c (sCrM.slice g2 (fun _ => rfl)) ∗ Any (F := F) c (zrM.slice z6 (fun _ => rfl))))
  iintro ⟨HA, HB, HC, HZ⟩
  ihave HA := (any_groups c _) $$ HA
  icases HA with ⟨HAr0, HAr1, HAr2⟩
  ihave HBr := (any_all c _) $$ HB
  ihave HC := (any_groups c _) $$ HC
  icases HC with ⟨HCr0, HCr1, HCr2⟩
  ihave HZ := (any_slabs c _) $$ HZ
  icases HZ with ⟨Hr0, Hr1, Hr2, Hr3, Hr4, Hr5, Hr6⟩
  isplitl [HAr0 Hr0 HAr1 Hr1 HAr2 Hr2 HBr Hr3]
  · iframe HAr0 Hr0 HAr1 Hr1 HAr2 Hr2 HBr Hr3
  iframe HCr0 Hr4 HCr1 Hr5 HCr2 Hr6

/-- The body. -/
theorem body (c : Dev nD) (Q : PUnit → sProp 𝕄) :
    iprop(Start Xs Ws As Bs c ∗ (Finish Xs Ws As Bs c -∗ Q ⟨⟩)) ⊢ WP c (at₀ (cc0_body (F := F))) Q := by
  rw [show cc0_body (F := F) = cc0_body_skel (F := F) from cc0_body_eq_skeleton]; unfold cc0_body_skel; dsimp only [at₀]
  unfold Start Operands Scratch
  rw [all14, all14, all3]
  iintro ⟨⟨⟨Hx, Hw, Hsx, Hsw⟩, Hout, ⟨Hacc, Hfwd, HAs, HAr, HBs, HBr, HCs, HCr, Hz, Hr⟩, #Hlev, HB, HO, HR, HD, HY⟩, Hk⟩
  icases HR with ⟨HR0, HR1, HR2, HR3, HR4, HR5, HR6, HR7, HR8, HR9, HR10, HR11, HR12, HR13⟩
  icases HD with ⟨HD0, HD1, HD2, HD3, HD4, HD5, HD6, HD7, HD8, HD9, HD10, HD11, HD12, HD13⟩
  icases HY with ⟨HY0, HY1, HY2⟩
  ihave HL := (lands c) $$ [HAr HBr HCr Hr]
  · iframe HAr HBr HCr Hr
  icases HL with ⟨HL1, HL2⟩
  ihave Hout := (any_groups c _) $$ Hout
  icases Hout with ⟨Ho0, Ho1, Ho2⟩
  ihave Hfwd := (any_groups c _) $$ Hfwd
  icases Hfwd with ⟨Hf0, Hf1, Hf2⟩
  ihave HAs := (any_groups c _) $$ HAs
  icases HAs with ⟨HAs0, HAs1, HAs2⟩
  ihave HCs := (any_groups c _) $$ HCs
  icases HCs with ⟨HCs0, HCs1, HCs2⟩
  ihave Ha := (any_all c _) $$ Hacc
  ihave HBs := (any_all c _) $$ HBs
  ihave Hz := (any_slabs c _) $$ Hz
  icases Hz with ⟨Hz0, Hz1, Hz2, Hz3, Hz4, Hz5, Hz6⟩
  iapply (bind_step c)
  iapply (part1 (Xs := Xs) (Ws := Ws) c)
  isplitl [Hx Hw HAs0 Hz0]
  · iframe Hx Hw HAs0 Hz0
  iintro %a2 %a3 %a4 %a7 %a8 ⟨Hx, Hw, HAs0, Hz0⟩
  dsimp only
  iapply (bind_step c)
  iapply (part2 (Xs := Xs) (Ws := Ws) (As := As) (Bs := Bs) c _ _ _)
  isplitl [HB HL1 HL2 HO HR0 HR7 HAs0 Hz0]
  · iframe Hlev HB HL1 HL2 HO HR0 HR7 HAs0 Hz0
  iintro ⟨HvB, HS0, HS7, HO, HLA, HLB⟩
  unfold barPay2
  icases HLA with ⟨HL1, HL8, HL2, HL9, HL3, HL10⟩
  icases HLB with ⟨HL4, HL11, HL5, HL12, HL6, HL13⟩
  iapply (bind_step c)
  iapply (part3 (Xs := Xs) (Ws := Ws) (As := As) (Bs := Bs) c _)
  isplitl [Hx HAs1 Hz1 HR1 HL1 HO]
  · iframe Hx HAs1 Hz1 HR1 HL1 HO
  iintro %b1 %b2 ⟨Hx, Hz1, HO, HS1⟩
  dsimp only
  iapply (bind_step c)
  iapply (part4 (Xs := Xs) (Ws := Ws) (As := As) (Bs := Bs) c _ _ _)
  isplitl [HR8 Hz1 HL8 HO Hx HAs2 Hz2]
  · iframe HR8 Hz1 HL8 HO Hx HAs2 Hz2
  iintro ⟨HO, HS8, Hx, HAs2, Hz2⟩
  iapply (bind_step c)
  iapply (part5 (Xs := Xs) (Ws := Ws) (As := As) (Bs := Bs) c _)
  isplitl [HR2 HAs2 HL2 HO HR9 Hz2 HL9 Hx]
  · iframe HR2 HAs2 HL2 HO HR9 Hz2 HL9 Hx
  iintro ⟨HO, HS2, HS9, Hx⟩
  dsimp only
  iapply (bind_step c)
  iapply (part6 (Xs := Xs) (Ws := Ws) (As := As) (Bs := Bs) c _ _)
  isplitl [HBs Hz3 HR3 HL3 HO HR10 HL10 Hx]
  · iframe HBs Hz3 HR3 HL3 HO HR10 HL10 Hx
  iintro ⟨HO, HS3, HS10, Hx⟩
  iapply (bind_step c)
  iapply (part7 (Xs := Xs) (Ws := Ws) (As := As) (Bs := Bs) c _)
  isplitl [Hf0 HS0 HO HD0 HS7]
  · iframe Hlev Hf0 HS0 HO HD0 HS7
  iintro ⟨Hf0, HO, HvS0, HAs0, HvR0, HAr0, HvS7, Hz0⟩
  iapply (bind_step c)
  iapply (part8 (Xs := Xs) (Ws := Ws) (As := As) (Bs := Bs) c _)
  isplitl [HD7 HO Hf0 HAr0 HCs0 Hz4]
  · iframe Hlev HD7 HO Hf0 HAr0 HCs0 Hz4
  iintro %b1 %b2 ⟨HO, HvR7, Hr0, Hf0, HAr0, HCs0, Hz4⟩
  dsimp only
  iapply (bind_step c)
  iapply (part9 (Xs := Xs) (Ws := Ws) (As := As) (Bs := Bs) c _ _ _ _)
  isplitl [HR4 HCs0 HL4 HO HR11 Hz4 HL11 Hx Hf1 HS1]
  · iframe Hlev HR4 HCs0 HL4 HO HR11 Hz4 HL11 Hx Hf1 HS1
  iintro ⟨HO, HS4, HS11, Hx, Hf1, HvS1, HAs1⟩
  iapply (bind_step c)
  iapply (part10 (Xs := Xs) (Ws := Ws) (As := As) (Bs := Bs) c _)
  isplitl [HD1 HO HS8 HD8 Hf1]
  · iframe Hlev HD1 HO HS8 HD8 Hf1
  iintro ⟨HO, HvR1, HAr1, HvS8, Hz1, HvR8, Hr1, Hf1⟩
  iapply (bind_step c)
  iapply (part11 (Xs := Xs) (Ws := Ws) (As := As) (Bs := Bs) c _)
  isplitl [HCs1 Hz5 HR5 HL5 HO]
  · iframe HCs1 Hz5 HR5 HL5 HO
  iintro ⟨Hz5, HO, HS5⟩
  iapply (bind_step c)
  iapply (part12 (Xs := Xs) (Ws := Ws) (As := As) (Bs := Bs) c _ _)
  isplitl [HR12 Hz5 HL12 HO Hx Hf2 HS2 HD2]
  · iframe Hlev HR12 Hz5 HL12 HO Hx Hf2 HS2 HD2
  iintro ⟨HO, HS12, Hx, Hf2, HvS2, HAs2, HvR2, HAr2⟩
  iapply (bind_step c)
  iapply (part13 (Xs := Xs) (Ws := Ws) (As := As) (Bs := Bs) c _)
  isplitl [HS9 HO HD9 Hf2 HAr2]
  · iframe Hlev HS9 HO HD9 Hf2 HAr2
  iintro ⟨HO, HvS9, Hz2, HvR9, Hr2, Hf2, HAr2⟩
  dsimp only
  iapply (bind_step c)
  iapply (part14 (Xs := Xs) (Ws := Ws) (As := As) (Bs := Bs) c _ _)
  isplitl [HCs2 Hz6 HR6 HL6 HO HR13 HL13 Hx Ha]
  · iframe HCs2 Hz6 HR6 HL6 HO HR13 HL13 Hx Ha
  iintro %w ⟨HO, HS6, HS13, Hx, Ha⟩
  dsimp only
  iapply (bind_step c)
  iapply (part15 (Xs := Xs) (Ws := Ws) (As := As) (Bs := Bs) c _ _)
  isplitl [Ha HS3 HO HD3 HS10]
  · iframe Hlev Ha HS3 HO HD3 HS10
  iintro ⟨Ha, HO, HvS3, HBs, HvR3, HBr, HvS10, Hz3⟩
  iapply (bind_step c)
  iapply (part16 (Xs := Xs) (Ws := Ws) (As := As) (Bs := Bs) c _)
  isplitl [HD10 HO Ha HBr Hsx Hsw HS4 HD4]
  · iframe Hlev HD10 HO Ha HBr Hsx Hsw HS4 HD4
  iintro ⟨HO, HvR10, Hr3, Ha, HBr, Hsx, Hsw, HvS4, HCs0, HvR4, HCr0⟩
  ihave Ha := (all_own c accM (acc1 Xs Ws c)) $$ Ha
  ihave Ha := (own_groups c accM (acc1 Xs Ws c)) $$ Ha
  icases Ha with ⟨Ha0, Ha1, Ha2⟩
  iapply (bind_step c)
  iapply (part17 (Xs := Xs) (Ws := Ws) (As := As) (Bs := Bs) c _)
  isplitl [HS11 HO HD11 Ha0 HCr0 HY0 Ho0]
  · iframe Hlev HS11 HO HD11 Ha0 HCr0 HY0 Ho0
  iintro ⟨HO, HvS11, Hz4, HvR11, Hr4, HCr0, HP0⟩
  iapply (bind_step c)
  iapply (part18 (Xs := Xs) (Ws := Ws) (As := As) (Bs := Bs) c _)
  isplitl [HS5 HO HD5 HS12 HD12 Ha1]
  · iframe Hlev HS5 HO HD5 HS12 HD12 Ha1
  iintro ⟨HO, HvS5, HCs1, HvR5, HCr1, HvS12, Hz5, HvR12, Hr5, Ha1⟩
  iapply (bind_step c)
  iapply (part19 (Xs := Xs) (Ws := Ws) (As := As) (Bs := Bs) c _)
  isplitl [HCr1 Hr5 Ha1 HY1 Ho1 HS6 HO HD6]
  · iframe Hlev HCr1 Hr5 Ha1 HY1 Ho1 HS6 HO HD6
  iintro ⟨HCr1, Hr5, HP1, HO, HvS6, HCs2, HvR6, HCr2⟩
  iapply (bind_step c)
  iapply (part20 (Xs := Xs) (Ws := Ws) (As := As) (Bs := Bs) c _)
  isplitl [HS13 HO HD13 Ha2 HCr2 HY2 Ho2]
  · iframe Hlev HS13 HO HD13 Ha2 HCr2 HY2 Ho2
  iintro ⟨HO, HvS13, Hz6, HvR13, Hr6, HCr2, HP2⟩
  simp only [Prog.lift, Prog.bind_op, Prog.bind_ret, Prog.pure_eq_ret]
  iapply (wait_copy_step (cp0 Xs Ws As Bs) c rfl) $$ [HP0 HO]
  · iframe HP0 Hlev HO
  iintro ⟨HvY0, Ho0, Ha0, HO⟩
  iapply (wait_copy_step (cp1 Xs Ws As Bs) c rfl) $$ [HP1 HO]
  · iframe HP1 Hlev HO
  iintro ⟨HvY1, Ho1, Ha1, HO⟩
  iapply (wait_copy_step (cp2 Xs Ws As Bs) c rfl) $$ [HP2 HO]
  · iframe HP2 Hlev HO
  iintro ⟨HvY2, Ho2, Ha2, HO⟩
  iapply (done c)
  iapply Hk
  unfold Finish Operands Scratch
  ihave Hf0 := (own_any c) $$ Hf0
  ihave Hf1 := (own_any c) $$ Hf1
  ihave Hf2 := (own_any c) $$ Hf2
  ihave HAr0 := (own_any c) $$ HAr0
  ihave Hr0 := (own_any c) $$ Hr0
  ihave HAr1 := (own_any c) $$ HAr1
  ihave Hr1 := (own_any c) $$ Hr1
  ihave HAr2 := (own_any c) $$ HAr2
  ihave Hr2 := (own_any c) $$ Hr2
  ihave HBr := (own_any c) $$ HBr
  ihave Hr3 := (own_any c) $$ Hr3
  ihave HCr0 := (own_any c) $$ HCr0
  ihave Hr4 := (own_any c) $$ Hr4
  ihave HCr1 := (own_any c) $$ HCr1
  ihave Hr5 := (own_any c) $$ Hr5
  ihave HCr2 := (own_any c) $$ HCr2
  ihave Hr6 := (own_any c) $$ Hr6
  ihave Hout := (own_result Xs Ws As Bs c outM) $$ [Ho0 Ho1 Ho2]
  · iframe Ho0 Ho1 Ho2
  ihave Ha := (groups_any c accM) $$ [Ha0 Ha1 Ha2]
  · iframe Ha0 Ha1 Ha2
  ihave Hf := (groups_any c fwdM) $$ [Hf0 Hf1 Hf2]
  · iframe Hf0 Hf1 Hf2
  ihave HAs := (groups_any c sAsM) $$ [HAs0 HAs1 HAs2]
  · iframe HAs0 HAs1 HAs2
  ihave HAr := (groups_any c sArM) $$ [HAr0 HAr1 HAr2]
  · iframe HAr0 HAr1 HAr2
  ihave HCs := (groups_any c sCsM) $$ [HCs0 HCs1 HCs2]
  · iframe HCs0 HCs1 HCs2
  ihave HCr := (groups_any c sCrM) $$ [HCr0 HCr1 HCr2]
  · iframe HCr0 HCr1 HCr2
  ihave Hz := (slabs_any c zsM) $$ [Hz0 Hz1 Hz2 Hz3 Hz4 Hz5 Hz6]
  · iframe Hz0 Hz1 Hz2 Hz3 Hz4 Hz5 Hz6
  ihave Hr := (slabs_any c zrM) $$ [Hr0 Hr1 Hr2 Hr3 Hr4 Hr5 Hr6]
  · iframe Hr0 Hr1 Hr2 Hr3 Hr4 Hr5 Hr6
  ihave HBs := (all_any c sBsM) $$ HBs
  ihave HBr := (all_any c sBrM) $$ HBr
  isplitl [Hx Hw Hsx Hsw]
  · iframe Hx Hw Hsx Hsw
  isplitl [Hout]; · iexact Hout
  isplitl [Ha Hf HAs HAr HBs HBr HCs HCr Hz Hr]
  · iframe Ha Hf HAs HAr HBs HBr HCs HCr Hz Hr
  isplitl [HvB]; · iexact HvB
  isplitl [HO]; · iexact HO
  isplitl [HvS0 HvS1 HvS2 HvS3 HvS4 HvS5 HvS6 HvS7 HvS8 HvS9 HvS10 HvS11 HvS12 HvS13]
  · iapply (Entails.of_eq (all14 _).symm)
    iframe HvS0 HvS1 HvS2 HvS3 HvS4 HvS5 HvS6 HvS7 HvS8 HvS9 HvS10 HvS11 HvS12 HvS13
  isplitl [HvR0 HvR1 HvR2 HvR3 HvR4 HvR5 HvR6 HvR7 HvR8 HvR9 HvR10 HvR11 HvR12 HvR13]
  · iapply (Entails.of_eq (all14 _).symm)
    iframe HvR0 HvR1 HvR2 HvR3 HvR4 HvR5 HvR6 HvR7 HvR8 HvR9 HvR10 HvR11 HvR12 HvR13
  iapply (Entails.of_eq (all3 _).symm)
  iframe HvY0 HvY1 HvY2

end Cert.Exchange

end
-- ==== Proof.Alloc.lean ====
/-
# The ghost state of the launch

Every device's cells are allocated at once; each device keeps its positions, and each token goes to the device
that pays the duty. The credits dealt at launch are those of the receive cells and of the barrier.
-/
module

public import proofs.«01_k».proof.Proof.Body
public import Idealize.ShloMosaic.Lib.Pipeline.Launch
public import Idealize.ShloMosaic.Lib.Pipeline.Kit

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Xs : Dev nD → Vec F S4096x1024 .fp8e5m2) (Ws : Dev nD → Vec F S1024x2048 .fp8e5m2)
variable (As Bs : Dev nD → Vec F S1 .f32)

/-! ## The cells and the tokens -/

/-- A device's own semaphores: send, receive, copy. -/
abbrev Own3 : Type := Fin 14 ⊕ (Fin 14 ⊕ Fin 3)
abbrev osem : Own3 → SemLoc sig
  | .inl i => .dma (sendS i)
  | .inr (.inl i) => .dma (recvS i)
  | .inr (.inr k) => .dma (copyS k)
theorem ownSemFacts : Pipeline.OwnSemFacts cfg0.spec osem := by decide +kernel

/-- With the barrier: all its semaphores under the protocol. -/
abbrev Sem4 : Type := Unit ⊕ Own3
abbrev csem : Sem4 → SemLoc sig
  | .inl _ => .reg barS
  | .inr k => osem k
abbrev kcell (ck : Dev nD × Sem4) : GSem nD τ sig := ((ck.1 : Thread nD τ), csem ck.2)

theorem csem_inj : Function.Injective csem := by decide +kernel
theorem kcell_inj : Function.Injective kcell := by
  rintro ⟨c, k⟩ ⟨c', k'⟩ h
  exact Prod.ext (congrArg (fun g : GSem nD τ sig => g.1.1) h) (csem_inj (congrArg Prod.snd h))
def allCells : Finset (GSem nD τ sig) := Finset.univ.map ⟨kcell, kcell_inj⟩

/-- The duties of a device's cells: two at its barrier, one at each of the others. -/
abbrev Tok4 : Type := Bool ⊕ Own3
abbrev tsem : Tok4 → SemLoc sig × Bool
  | .inl b => (.reg barS, b)
  | .inr k => (osem k, false)
abbrev tokOf (ct : Dev nD × Tok4) : GSem nD τ sig × ℕ × Bool := (((ct.1 : Thread nD τ), (tsem ct.2).1), 0, (tsem ct.2).2)
theorem tsem_inj : Function.Injective tsem := by decide +kernel
theorem tokOf_inj : Function.Injective tokOf := by
  rintro ⟨c, k⟩ ⟨c', k'⟩ h
  exact Prod.ext (congrArg (fun x : GSem nD τ sig × ℕ × Bool => x.1.1.1) h)
    (tsem_inj (Prod.ext (congrArg (fun x : GSem nD τ sig × ℕ × Bool => x.1.2) h) (congrArg (fun x : GSem nD τ sig × ℕ × Bool => x.2.2) h)))
def allToks : Finset (GSem nD τ sig × ℕ × Bool) := Finset.univ.map ⟨tokOf, tokOf_inj⟩

def u₀ : UU :=
  (initOf (Pipeline.cells cfgs cellOf_inj) (Pipeline.launchToks cfgs cellOf_inj), initOf allCells allToks)

/-- The tokens of `c`'s cells, -/
def toks (c : Dev nD) : sProp 𝕄 :=
  bigSep Finset.univ fun t : Tok4 => dutyTok ER ((c : Thread nD τ), (tsem t).1) 0 (tsem t).2
/-- its positions, -/
def poss (c : Dev nD) : sProp 𝕄 := bigSep Finset.univ fun k : Sem4 => atPos ER (kcell (c, k)) 0 ∅ 0
/-- and all the launch gives it. -/
def G (c : Dev nD) : sProp 𝕄 :=
  iprop((bigSep Finset.univ fun k : Sem4 => roundState ER (RD Xs Ws As Bs) (kcell (c, k)) 0)
    ∗ (bigSep Finset.univ fun k : Sem4 => reached ER (kcell (c, k)) 0) ∗ poss (F := F) c ∗ toks (F := F) c)

theorem fund : BI.own (ER (initOf allCells allToks)) ⊢ (|==> bigSep Finset.univ (G Xs Ws As Bs) : sProp 𝕄) := by
  have hX (Φ : GSem nD τ sig → sProp 𝕄) : bigSep allCells Φ = bigSep Finset.univ fun c : Dev nD => bigSep Finset.univ fun k : Sem4 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (RD Xs Ws As Bs) allCells allToks) $$ HX with ⟨Hst, Hr, Hat, Htok⟩
  imodintro
  ihave Hst' := (Entails.of_eq (hX fun g => roundState ER (RD Xs Ws As Bs) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  iframe Hst' Hr' Hat' Htok'

/-! ## Sums split -/

theorem bigSep_own3 (Φ : Own3 → sProp 𝕄) : bigSep Finset.univ Φ
    = iprop((bigSep Finset.univ fun i : Fin 14 => Φ (.inl i)) ∗ (bigSep Finset.univ fun i : Fin 14 => Φ (.inr (.inl i)))
        ∗ bigSep Finset.univ fun k : Fin 3 => Φ (.inr (.inr k))) := by
  rw [bigSep_univ_sum, bigSep_univ_sum]; rfl
theorem bigSep_sem4 (Φ : Sem4 → sProp 𝕄) : bigSep Finset.univ Φ
    = iprop(Φ (.inl ()) ∗ bigSep Finset.univ fun k : Own3 => Φ (.inr k)) := by
  rw [bigSep_univ_sum, Finset.univ_unique, bigSep_singleton]; rfl
theorem bigSep_bool (Φ : Bool → sProp 𝕄) : bigSep Finset.univ Φ = iprop(Φ false ∗ Φ true) :=
  bigSep_univ_eq_bigSepL [false, true] (by decide) (by decide) Φ
theorem ownSems_eq (c : Dev nD) : (Pipeline.ownSems0 (Ix := Unit) (Name := ℕ) (U := UU) (Lvl := ℕ) (Val := Elt F) (τ := τ) osem c : sProp 𝕄)
    = iprop((bigSep Finset.univ fun i : Fin 14 => semVal (sendCell c i) 0) ∗ (bigSep Finset.univ fun i : Fin 14 => semVal (recvCell c i) 0)
        ∗ bigSep Finset.univ fun k : Fin 3 => semVal (copyCell c k) 0) := by
  unfold Pipeline.ownSems0; rw [bigSep_own3]
theorem unscopedSems_eq (c : Dev nD) : (unscopedSems0 c : sProp 𝕄) = semVal (barCell c) 0 := by
  unfold unscopedSems0; rw [bigSep_eq_bigSepL_of_eq [SemLoc.reg barS] (by decide) (by decide)]; rfl

/-! ## The invariants -/

theorem core_alloc (c : Dev nD) :
    iprop(Pipeline.ownSems0 (Ix := Unit) (Name := ℕ) (U := UU) (Lvl := ℕ) (Val := Elt F) (τ := τ) osem c ∗ unscopedSems0 c ∗ G Xs Ws As Bs c)
      ⊢ |={Set.univ}=> iprop((bigSep Finset.univ fun k : Sem4 => Cell Xs Ws As Bs (kcell (c, k)))
          ∗ (bigSep Finset.univ fun k : Sem4 => reached ER (kcell (c, k)) 0) ∗ poss (F := F) c ∗ toks (F := F) c) := by
  have hv : (bigSep Finset.univ fun k : Sem4 => (semVal (kcell (c, k)) 0 : sProp 𝕄)) = iprop(unscopedSems0 c
      ∗ Pipeline.ownSems0 (Ix := Unit) (Name := ℕ) (U := UU) (Lvl := ℕ) (Val := Elt F) (τ := τ) osem c) := by
    rw [unscopedSems_eq, bigSep_sem4]; rfl
  have ha : iprop((bigSep Finset.univ fun k : Sem4 => semVal (kcell (c, k)) 0) ∗ bigSep Finset.univ fun k : Sem4 => roundState ER (RD Xs Ws As Bs) (kcell (c, k)) 0)
      ⊢ (|={Set.univ}=> bigSep Finset.univ fun k : Sem4 => Cell Xs Ws As Bs (kcell (c, k)) : sProp 𝕄) := by
    rw [← bigSep_sep']
    exact (bigSep_mono fun k _ => (Rounds.body_intro ER (RD Xs Ws As Bs) (kcell (c, k))).trans inv_alloc).trans (bigSep_fupd _ _)
  unfold G
  iintro ⟨Hos, Hus, Hst, Hr, Hat, Htok⟩
  ihave Hv := (Entails.of_eq hv.symm) $$ [Hos Hus]
  · iframe Hos Hus
  imod ha $$ [Hv Hst] with Hinv
  · iframe Hv Hst
  imodintro
  iframe Hinv Hr Hat Htok

/-- Every cell of the machine at its invariant, and at round 0. -/
def Records : sProp 𝕄 :=
  iprop((bigSep Finset.univ fun ck : Dev nD × Sem4 => Cell Xs Ws As Bs (kcell ck))
    ∗ bigSep Finset.univ fun ck : Dev nD × Sem4 => reached ER (kcell ck) 0)
instance : BI.Persistent (Records Xs Ws As Bs) := by unfold Records; infer_instance

theorem rec_at (ck : Dev nD × Sem4) : Records Xs Ws As Bs ⊢ iprop(Cell Xs Ws As Bs (kcell ck) ∗ reached ER (kcell ck) 0) := by
  unfold Records; exact BI.sep_mono (bigSep_elim (Finset.mem_univ ck)) (bigSep_elim (Finset.mem_univ ck))

theorem zip {I : Type} [DecidableEq I] (S : Finset I) (Φ Ψ : I → sProp 𝕄) : iprop(bigSep S Φ ∗ bigSep S Ψ) ⊢ bigSep S fun i => iprop(Φ i ∗ Ψ i) :=
  Entails.of_eq (bigSep_sep' S Φ Ψ).symm
theorem with_rec {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (Laws.sep_mono_left (BI.bigSep_of_persistent S R)).trans ((zip S _ _).trans (bigSep_mono h))

/-! ## The tokens to those who pay them -/

/-- The tokens `c` pays with. -/
def pays (c : Dev nD) : sProp 𝕄 :=
  iprop((dutyTok ER (barCell (p1 c)) 0 false ∗ dutyTok ER (barCell (p2 c)) 0 true)
    ∗ (bigSep Finset.univ fun i : Fin 14 => dutyTok ER (sendCell c i) 0 false)
    ∗ (bigSep Finset.univ fun i : Fin 14 => dutyTok ER (recvCell (peer c i) i) 0 false)
    ∗ bigSep Finset.univ fun k : Fin 3 => dutyTok ER (copyCell c k) 0 false)

/-- A channel seen from its other end. -/
def across : Dev nD × Fin 14 ≃ Dev nD × Fin 14 :=
  ⟨fun x => (peer x.1 x.2, x.2), fun x => (peer x.1 x.2, x.2), fun x => Prod.ext (peer_peer _ _) rfl, fun x => Prod.ext (peer_peer _ _) rfl⟩

theorem recv_across : (bigSep Finset.univ fun c : Dev nD => bigSep Finset.univ fun i : Fin 14 => (dutyTok ER (recvCell c i) 0 false : sProp 𝕄))
    = bigSep Finset.univ fun c : Dev nD => bigSep Finset.univ fun i : Fin 14 => dutyTok ER (recvCell (peer c i) i) 0 false := by
  rw [← bigSep_univ_prod (fun x : Dev nD × Fin 14 => (dutyTok ER (recvCell x.1 x.2) 0 false : sProp 𝕄)), bigSep_univ_equiv across, bigSep_univ_prod]
  rfl

theorem toks_pays : (bigSep Finset.univ fun c : Dev nD => (toks c : sProp 𝕄)) ⊢ bigSep Finset.univ fun c : Dev nD => pays c := by
  have h (c : Dev nD) : (toks c : sProp 𝕄) = iprop((dutyTok ER (barCell c) 0 false ∗ dutyTok ER (barCell c) 0 true)
      ∗ (bigSep Finset.univ fun i : Fin 14 => dutyTok ER (sendCell c i) 0 false)
      ∗ (bigSep Finset.univ fun i : Fin 14 => dutyTok ER (recvCell c i) 0 false)
      ∗ bigSep Finset.univ fun k : Fin 3 => dutyTok ER (copyCell c k) 0 false) := by
    unfold toks; rw [bigSep_univ_sum, bigSep_bool, bigSep_own3]; rfl
  rw [bigSep_congr fun c _ => h c]
  unfold pays
  rw [bigSep_sep', bigSep_sep', bigSep_sep', bigSep_sep', bigSep_sep', bigSep_sep', bigSep_sep', bigSep_sep', recv_across,
    bigSep_univ_equiv flip1 (fun c : Dev nD => (dutyTok ER (barCell c) 0 false : sProp 𝕄)),
    bigSep_univ_equiv flip2 (fun c : Dev nD => (dutyTok ER (barCell c) 0 true : sProp 𝕄))]
  exact BI.Entails.refl _

/-! ## What each device gets -/

/-- All but the credits. -/
def Ghost (c : Dev nD) : sProp 𝕄 :=
  iprop((Cell Xs Ws As Bs (barCell (p1 c)) ∗ Cell Xs Ws As Bs (barCell (p2 c)) ∗ Cell Xs Ws As Bs (barCell c)
      ∗ reached ER (barCell (p1 c)) 0 ∗ reached ER (barCell (p2 c)) 0
      ∗ dutyTok ER (barCell (p1 c)) 0 false ∗ dutyTok ER (barCell (p2 c)) 0 true ∗ atPos ER (barCell c) 0 ∅ 0)
    ∗ (bigSep Finset.univ fun i : Fin 14 => Ready Xs Ws As Bs c i)
    ∗ (bigSep Finset.univ fun i : Fin 14 => iprop(Cell Xs Ws As Bs (recvCell c i) ∗ atPos ER (recvCell c i) 0 ∅ 0))
    ∗ bigSep Finset.univ fun k : Fin 3 => CopyReady Xs Ws As Bs c k)

theorem ready_intro (c : Dev nD) (i : Fin 14) :
    iprop(Records Xs Ws As Bs ∗ (dutyTok ER (sendCell c i) 0 false ∗ dutyTok ER (recvCell (peer c i) i) 0 false) ∗ atPos ER (sendCell c i) 0 ∅ 0)
      ⊢ Ready Xs Ws As Bs c i := by
  unfold Ready
  iintro ⟨#HR, ⟨H1, H2⟩, H3⟩
  ihave ⟨#HA, #HB⟩ := (rec_at Xs Ws As Bs (c, .inr (.inl i))) $$ HR
  ihave ⟨#HC, #HD⟩ := (rec_at Xs Ws As Bs (peer c i, .inr (.inr (.inl i)))) $$ HR
  iframe HA HC HB HD H1 H2 H3
theorem due_intro (c : Dev nD) (i : Fin 14) :
    iprop(Records Xs Ws As Bs ∗ atPos ER (recvCell c i) 0 ∅ 0) ⊢ iprop(Cell Xs Ws As Bs (recvCell c i) ∗ atPos ER (recvCell c i) 0 ∅ 0) := by
  iintro ⟨#HR, H⟩
  ihave ⟨#HA, -⟩ := (rec_at Xs Ws As Bs (c, .inr (.inr (.inl i)))) $$ HR
  iframe HA H
theorem copy_intro (c : Dev nD) (k : Fin 3) :
    iprop(Records Xs Ws As Bs ∗ dutyTok ER (copyCell c k) 0 false ∗ atPos ER (copyCell c k) 0 ∅ 0) ⊢ CopyReady Xs Ws As Bs c k := by
  unfold CopyReady
  iintro ⟨#HR, H1, H2⟩
  ihave ⟨#HA, #HB⟩ := (rec_at Xs Ws As Bs (c, .inr (.inr (.inr k)))) $$ HR
  iframe HA HB H1 H2

theorem ghost_intro (c : Dev nD) : iprop(Records Xs Ws As Bs ∗ poss c ∗ pays c) ⊢ Ghost Xs Ws As Bs c := by
  have hp : (poss c : sProp 𝕄) = iprop(atPos ER (barCell c) 0 ∅ 0 ∗ (bigSep Finset.univ fun i : Fin 14 => atPos ER (sendCell c i) 0 ∅ 0)
      ∗ (bigSep Finset.univ fun i : Fin 14 => atPos ER (recvCell c i) 0 ∅ 0) ∗ bigSep Finset.univ fun k : Fin 3 => atPos ER (copyCell c k) 0 ∅ 0) := by
    unfold poss; rw [bigSep_sem4, bigSep_own3]
  rw [hp]
  unfold pays Ghost
  iintro ⟨#HR, ⟨Hb, Hs, Hr, Hc⟩, ⟨Ht1, Ht2⟩, Hts, Htr, Htc⟩
  ihave ⟨#HA, #HB⟩ := (rec_at Xs Ws As Bs (p1 c, .inl ())) $$ HR
  ihave ⟨#HC, #HD⟩ := (rec_at Xs Ws As Bs (p2 c, .inl ())) $$ HR
  ihave ⟨#HE, -⟩ := (rec_at Xs Ws As Bs (c, .inl ())) $$ HR
  isplitl [Hb Ht1 Ht2]
  · iframe HA HC HE HB HD Ht1 Ht2 Hb
  isplitl [Hs Hts Htr]
  · ihave H := (zip Finset.univ (fun i : Fin 14 => (dutyTok ER (sendCell c i) 0 false : sProp 𝕄)) (fun i => dutyTok ER (recvCell (peer c i) i) 0 false)) $$ [Hts Htr]
    · isplitl [Hts]; · iexact Hts
      iexact Htr
    ihave H' := (zip Finset.univ (fun i : Fin 14 => iprop(dutyTok ER (sendCell c i) 0 false ∗ dutyTok ER (recvCell (peer c i) i) 0 false))
      (fun i => (atPos ER (sendCell c i) 0 ∅ 0 : sProp 𝕄))) $$ [H Hs]
    · isplitl [H]; · iexact H
      iexact Hs
    iapply (with_rec (R := Records Xs Ws As Bs) fun i _ => ready_intro Xs Ws As Bs c i)
    isplitr; · iexact HR
    iexact H'
  isplitl [Hr]
  · iapply (with_rec (R := Records Xs Ws As Bs) fun i _ => due_intro Xs Ws As Bs c i)
    isplitr; · iexact HR
    iexact Hr
  · ihave H := (zip Finset.univ (fun k : Fin 3 => (dutyTok ER (copyCell c k) 0 false : sProp 𝕄)) (fun k => atPos ER (copyCell c k) 0 ∅ 0)) $$ [Htc Hc]
    · isplitl [Htc]; · iexact Htc
      iexact Hc
    iapply (with_rec (R := Records Xs Ws As Bs) fun i _ => copy_intro Xs Ws As Bs c i)
    isplitr; · iexact HR
    iexact H

theorem regroup :
    (bigSep Finset.univ fun c : Dev nD => iprop((bigSep Finset.univ fun k : Sem4 => Cell Xs Ws As Bs (kcell (c, k)))
          ∗ (bigSep Finset.univ fun k : Sem4 => reached ER (kcell (c, k)) 0) ∗ poss (F := F) c ∗ toks (F := F) c) : sProp 𝕄)
      ⊢ bigSep Finset.univ (Ghost Xs Ws As Bs) := by
  rw [bigSep_sep', bigSep_sep', bigSep_sep', ← bigSep_univ_prod (fun ck : Dev nD × Sem4 => Cell Xs Ws As Bs (kcell ck)),
    ← bigSep_univ_prod (fun ck : Dev nD × Sem4 => (reached ER (kcell ck) 0 : sProp 𝕄))]
  iintro ⟨#HI, #HR, Hat, Htok⟩
  ihave Htk := (toks_pays (F := F)) $$ Htok
  ihave H := (zip Finset.univ (poss (F := F)) pays) $$ [Hat Htk]
  · isplitl [Hat]; · iexact Hat
    iexact Htk
  iapply (with_rec (R := Records Xs Ws As Bs) fun c _ => ghost_intro Xs Ws As Bs c)
  isplitr
  · unfold Records; iframe HI HR
  iexact H

theorem glob : (bigSep Finset.univ fun c => iprop(Pipeline.ownSems0 (Ix := Unit) (Name := ℕ) (U := UU) (Lvl := ℕ) (Val := Elt F) (τ := τ) osem c
      ∗ unscopedSems0 c ∗ G Xs Ws As Bs c) : sProp 𝕄)
    ⊢ |={Set.univ}=> bigSep Finset.univ (Ghost Xs Ws As Bs) :=
  ((bigSep_mono fun c _ => core_alloc Xs Ws As Bs c).trans (bigSep_fupd _ _)).trans (BI.fupd_mono (regroup Xs Ws As Bs))

/-! ## The credits -/

theorem recvS_inj : Function.Injective recvS := by decide +kernel
theorem recvS_ne_bar (i : Fin 14) : (SemLoc.dma (recvS i) : SemLoc sig) ≠ .reg barS := fun h => by cases h

theorem dev_of_cell {a b : Dev nD} {s t : SemLoc sig} (h : (((a : Thread nD τ), s) : GSem nD τ sig) = ((b : Thread nD τ), t)) : a = b :=
  Fin.ext (congrArg (fun g : GSem nD τ sig => g.1.1.val) h)

theorem owed_none (c : Dev nD) (g : GSem nD τ sig) : ∀ l : List (Fin 14), (∀ i ∈ l, g ≠ recvCell (peer c i) i) → owed c l g () = 0
  | l, h => Nat.eq_zero_of_not_pos fun hp => by obtain ⟨i, hi, e⟩ := owed_pos hp; exact h i hi e

theorem owed_recv (d c : Dev nD) (i : Fin 14) : ∀ l : List (Fin 14), l.Nodup → owed d l (recvCell c i) () = if i ∈ l ∧ d = peer c i then amt i else 0
  | [], _ => by rw [if_neg (fun h => by cases h.1)]; rfl
  | j :: l, hl => by
    obtain ⟨hj, hl'⟩ := List.nodup_cons.mp hl
    unfold owed
    rw [Pi.add_apply, Finsupp.add_apply, tallyAt_apply, owed_recv d c i l hl']
    by_cases hij : i = j
    · subst hij
      rw [if_neg (fun h => hj h.1), Nat.zero_add]
      by_cases hd : d = peer c i
      · subst hd; rw [peer_peer, if_pos ⟨rfl, rfl⟩, if_pos ⟨List.mem_cons_self, rfl⟩]
      · rw [if_neg (fun h => hd (by rw [dev_of_cell h.1, peer_peer])), if_neg (fun h => hd h.2)]
    · rw [if_neg (fun h : recvCell c i = recvCell (peer d j) j ∧ () = () => hij (recvS_inj (SemLoc.dma.inj (congrArg Prod.snd h.1)))), Nat.add_zero]
      refine if_congr ⟨fun h => ⟨List.mem_cons_of_mem _ h.1, h.2⟩, fun h => ⟨(List.mem_cons.mp h.1).resolve_left hij, h.2⟩⟩ rfl rfl

theorem mem_order (i : Fin 14) : i ∈ order := by revert i; decide

theorem start_recv (d c : Dev nD) (i : Fin 14) : O₀ d (recvCell c i) () = if d = peer c i then amt i else 0 := by
  unfold O₀ O₁
  rw [Pi.add_apply, Finsupp.add_apply, Pi.add_apply, Finsupp.add_apply, tallyAt_ne_cell (fun h => recvS_ne_bar i (congrArg Prod.snd h)),
    tallyAt_ne_cell (fun h => recvS_ne_bar i (congrArg Prod.snd h)), Finsupp.zero_apply, Nat.add_zero, Nat.add_zero, owed_recv d c i order (by decide)]
  exact if_congr ⟨fun h => h.2, fun h => ⟨mem_order i, h⟩⟩ rfl rfl

theorem start_bar (d c : Dev nD) : O₀ d (barCell c) () = (if d = p2 c then 1 else 0) + (if d = p1 c then 1 else 0) := by
  unfold O₀ O₁
  rw [Pi.add_apply, Finsupp.add_apply, Pi.add_apply, Finsupp.add_apply, owed_none d _ _ (fun i _ h => recvS_ne_bar i (congrArg Prod.snd h).symm),
    tallyAt_apply, tallyAt_apply, Nat.zero_add]
  refine congrArg₂ (· + ·) (if_congr ⟨fun h => ?_, fun h => ?_⟩ rfl rfl) (if_congr ⟨fun h => ?_, fun h => ?_⟩ rfl rfl)
  · rw [dev_of_cell h.1, p2_p2]
  · subst h; rw [p2_p2]; exact ⟨rfl, rfl⟩
  · rw [dev_of_cell h.1, p1_p1]
  · subst h; rw [p1_p1]; exact ⟨rfl, rfl⟩

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => start_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (c : Dev nD) (i : Fin 14) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => start_recv d c i,
    Finset.sum_ite_eq' Finset.univ (peer c i) fun _ => amt i, if_pos (Finset.mem_univ _)]

theorem creds (c : Dev nD) :
    (Pipeline.launchCred O₀ c : sProp 𝕄) ⊢ iprop(cred (tallyAt (barCell c) () 2) ∗ bigSep Finset.univ fun i : Fin 14 => cred (tallyAt (recvCell c i) () (amt i))) := by
  unfold Pipeline.launchCred
  rw [bigSep_univ_at _ (SemLoc.reg barS), launch_bar]
  refine Laws.sep_mono_right ?_
  have hs : Finset.univ.map ⟨fun i : Fin 14 => (SemLoc.dma (recvS i) : SemLoc sig), fun i j h => recvS_inj (SemLoc.dma.inj h)⟩ ⊆ Finset.univ.erase (SemLoc.reg barS) := by
    intro s hs
    obtain ⟨i, -, rfl⟩ := Finset.mem_map.mp hs
    exact Finset.mem_erase.mpr ⟨recvS_ne_bar i, Finset.mem_univ _⟩
  rw [← bigSep_congr fun i _ => congrArg cred (launch_recv c i)]
  exact (bigSep_subset hs).trans (by rw [bigSep_map]; exact BI.Entails.refl _)

end Cert.Exchange

end
-- ==== Proof.Launch.lean ====
/-
# The run

From any memory with zero counters, every device ends with its block of the result, its operands unchanged and every
counter at zero.
-/
module

public import proofs.«01_k».proof.Proof.Alloc
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operands as staged -/

def Xm (c : Dev nD) : Vec F S4096x1024 .fp8e5m2 := (win0_0.blk t0_0).view.read (Elt F) (m ((c : Thread nD τ).loc main_arg0))
def Wm (c : Dev nD) : Vec F S1024x2048 .fp8e5m2 := (win0_1.blk t0_0).view.read (Elt F) (m ((c : Thread nD τ).loc main_arg1))
def Am (c : Dev nD) : Vec F S1 .f32 := (win0_2.blk t0_0).view.read (Elt F) (m ((c : Thread nD τ).loc main_arg2))
def Bm (c : Dev nD) : Vec F S1 .f32 := (win0_3.blk t0_0).view.read (Elt F) (m ((c : Thread nD τ).loc main_arg3))

/-- What a device starts with besides its scratch, its operands and what it owes, -/
def Before (c : Dev nD) : sProp 𝕄 :=
  iprop(Any (F := F) c outM ∗ Lev ∗ BarReady (Xm m) (Wm m) (Am m) (Bm m) c
    ∗ (bigSep Finset.univ fun i : Fin 14 => Ready (Xm m) (Wm m) (Am m) (Bm m) c i) ∗ (bigSep Finset.univ fun i : Fin 14 => Due (Xm m) (Wm m) (Am m) (Bm m) c i)
    ∗ bigSep Finset.univ fun k : Fin 3 => CopyReady (Xm m) (Wm m) (Am m) (Bm m) c k)
/-- and what it ends with. -/
def After (c : Dev nD) : sProp 𝕄 :=
  iprop(Own c outM (result (Xm m) (Wm m) (Am m) (Bm m) c) ∗ semVal (barCell c) 0
    ∗ (bigSep Finset.univ fun i : Fin 14 => semVal (sendCell c i) 0) ∗ (bigSep Finset.univ fun i : Fin 14 => semVal (recvCell c i) 0)
    ∗ bigSep Finset.univ fun k : Fin 3 => semVal (copyCell c k) 0)

def dats (_ : Fin 1) (c : Dev nD) : Dat τ (Elt F) Unit ℕ UU ℕ cfg0 c where
  A w := m ((cfg0.win w).arr.view.loc (c : Thread nD τ))
  after w _ := match w with
    | ⟨0, _⟩ => Xm m c
    | ⟨1, _⟩ => Wm m c
    | ⟨2, _⟩ => Am m c
    | ⟨3, _⟩ => Bm m c
  Φ t := match t with
    | ⟨0, _⟩ => iprop(Before m c ∗ Scratch (F := F) c)
    | ⟨_ + 1, _⟩ => iprop(After m c ∗ Scratch (F := F) c)
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem before_x (c : Dev nD) (d) : (dats m 0 c).before (0 : Fin 4) t0_0 d = Xm m c := rfl
theorem before_w (c : Dev nD) (d) : (dats m 0 c).before (1 : Fin 4) t0_0 d = Wm m c := rfl
theorem before_a (c : Dev nD) (d) : (dats m 0 c).before (2 : Fin 4) t0_0 d = Am m c := rfl
theorem before_b (c : Dev nD) (d) : (dats m 0 c).before (3 : Fin 4) t0_0 d = Bm m c := rfl

def PointPre (c : Dev nD) : sProp 𝕄 :=
  iprop((Before m c ∗ Scratch (F := F) c) ∗ (dats m 0 c).owesAt () t0_0.castSucc
    ∗ (∃ d, Own c xM ((dats m 0 c).before (0 : Fin 4) t0_0 d)) ∗ (∃ d, Own c wM ((dats m 0 c).before (1 : Fin 4) t0_0 d))
    ∗ (∃ d, Own c sxM ((dats m 0 c).before (2 : Fin 4) t0_0 d)) ∗ (∃ d, Own c swM ((dats m 0 c).before (3 : Fin 4) t0_0 d)))
def PointPost (c : Dev nD) : sProp 𝕄 :=
  iprop((After m c ∗ Scratch (F := F) c) ∗ (dats m 0 c).owesAt () t0_0.succ
    ∗ Own c xM (Xm m c) ∗ Own c wM (Wm m c) ∗ Own c sxM (Am m c) ∗ Own c swM (Bm m c))

theorem point (c : Dev nD) : PointPre m c ⊢ WP c (at₀ (cc0_body (F := F))) (fun _ => PointPost m c) := by
  unfold PointPre
  simp only [before_x, before_w, before_a, before_b]
  unfold Before
  iintro ⟨⟨⟨Ho, HL, HB, HR, HD, HC⟩, HS⟩, HO, ⟨%_, H0⟩, ⟨%_, H1⟩, ⟨%_, H2⟩, ⟨%_, H3⟩⟩
  iapply (body (Xm m) (Wm m) (Am m) (Bm m) c fun _ => PointPost m c)
  isplitr []
  · unfold Start Operands
    unfold Dat.owesAt Pipeline.owesWithin
    icases HO with ⟨%W, -, HO⟩
    isplitl [H0 H1 H2 H3]
    · iframe H0 H1 H2 H3
    isplitl [Ho]; · iexact Ho
    isplitl [HS]; · iexact HS
    isplitl [HL]; · iexact HL
    isplitl [HB]; · iexact HB
    isplitl [HO]; · iexists W; iexact HO
    isplitl [HR]; · iexact HR
    isplitl [HD]; · iexact HD
    iexact HC
  · unfold Finish Operands PointPost After
    iintro ⟨⟨H0, H1, H2, H3⟩, Ho, HS, Hb, ⟨%W, HO⟩, Hs, Hr, Hc⟩
    isplitl [Ho HS Hb Hs Hr Hc]
    · isplitl [Ho Hb Hs Hr Hc]
      · iframe Ho Hb Hs Hr Hc
      iexact HS
    isplitl [HO]
    · unfold Dat.owesAt Pipeline.owesWithin
      iexists W
      isplitr; · ipureintro; exact fun _ _ => Or.inl trivial
      iexact HO
    iframe H0 H1 H2 H3

set_option maxRecDepth 8000 in
theorem body_obligation (c : Dev nD) : BodyObligation (dats (F := F) m 0 c) (defs₀ (F := F)) 𝒱₀ () Set.univ := fun t => by
  rw [fin_N0 t]
  rw [bigSep_W0, bigSep_W0]
  exact point m c

/-! ## Into the body and out of it -/

theorem any_whole (c : Dev nD) (b : Ref sig .tc) :
    iprop(∃ f : Buf (Elt F) ((c : Thread nD τ).loc b), ((c : Thread nD τ).loc b) ↦{fullShare} f) ⊢ (Any c (Memref.whole b) : sProp 𝕄) := by
  iintro ⟨%f, H⟩
  iapply (own_any c (m := Memref.whole b) (v := f))
  iapply (Entails.of_eq (owns_whole (c : Thread nD τ) b fullShare f).symm)
  iexact H
theorem whole_any (c : Dev nD) (b : Ref sig .tc) :
    (Any c (Memref.whole b) : sProp 𝕄) ⊢ iprop(∃ f : Buf (Elt F) ((c : Thread nD τ).loc b), ((c : Thread nD τ).loc b) ↦{fullShare} f) := by
  refine (ownsSat_elim (c : Thread nD τ) (Memref.whole b) fullShare (fun _ => True)).trans ?_
  iintro ⟨%f, -, H⟩
  iexists f
  iapply (Entails.of_eq (owns_whole (c : Thread nD τ) b fullShare f))
  iexact H

theorem scratch_in (c : Dev nD) : (Pipeline.scopedRest cfg0.spec c : sProp 𝕄) ⊢ Scratch c := by
  rw [scopedRest0_eq]
  unfold Scratch
  exact BI.sep_mono (any_whole c _) (BI.sep_mono (any_whole c _) (BI.sep_mono (any_whole c _) (BI.sep_mono (any_whole c _) (BI.sep_mono (any_whole c _)
    (BI.sep_mono (any_whole c _) (BI.sep_mono (any_whole c _) (BI.sep_mono (any_whole c _) (BI.sep_mono (any_whole c _) (any_whole c _)))))))))
theorem scratch_out (c : Dev nD) : (Scratch c : sProp 𝕄) ⊢ Pipeline.scopedRest cfg0.spec c := by
  rw [scopedRest0_eq]
  unfold Scratch
  exact BI.sep_mono (whole_any c _) (BI.sep_mono (whole_any c _) (BI.sep_mono (whole_any c _) (BI.sep_mono (whole_any c _) (BI.sep_mono (whole_any c _)
    (BI.sep_mono (whole_any c _) (BI.sep_mono (whole_any c _) (BI.sep_mono (whole_any c _) (BI.sep_mono (whole_any c _) (whole_any c _)))))))))

theorem due_of (Xs : Dev nD → Vec F S4096x1024 .fp8e5m2) (Ws : Dev nD → Vec F S1024x2048 .fp8e5m2) (As Bs : Dev nD → Vec F S1 .f32) (c : Dev nD) (i : Fin 14) :
    iprop((Cell Xs Ws As Bs (recvCell c i) ∗ atPos ER (recvCell c i) 0 ∅ 0) ∗ cred (tallyAt (recvCell c i) () (amt i))) ⊢ Due Xs Ws As Bs c i := by
  unfold Due
  iintro ⟨⟨H1, H2⟩, H3⟩
  iframe H1 H2 H3
theorem all_due (Xs : Dev nD → Vec F S4096x1024 .fp8e5m2) (Ws : Dev nD → Vec F S1024x2048 .fp8e5m2) (As Bs : Dev nD → Vec F S1 .f32) (c : Dev nD) :
    (bigSep Finset.univ fun i : Fin 14 => iprop((Cell Xs Ws As Bs (recvCell c i) ∗ atPos ER (recvCell c i) 0 ∅ 0) ∗ cred (tallyAt (recvCell c i) () (amt i))))
      ⊢ bigSep Finset.univ fun i : Fin 14 => Due Xs Ws As Bs c i :=
  bigSep_mono fun i _ => due_of Xs Ws As Bs c i

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ghost (Xm m) (Wm m) (Am m) (Bm m) c)
      ⊢ |={Set.univ}=> iprop(Before m c ∗ emp) := by
  rw [Pipeline.unscopedRestP_none, unscopedRest0_eq]
  unfold Ghost Before BarReady
  iintro ⟨Hv, Hlev, Hcr, -, ⟨Ha, Hb, Hc, Hd, He, Hf, Hg, Hh⟩, HR, HD, HC⟩
  ihave ⟨H1, HN⟩ := (creds (F := F) c) $$ Hcr
  ihave HDC := (zip Finset.univ (fun i : Fin 14 => iprop(Cell (Xm m) (Wm m) (Am m) (Bm m) (recvCell c i) ∗ atPos ER (recvCell c i) 0 ∅ 0))
      (fun i => (cred (tallyAt (recvCell c i) () (amt i)) : sProp 𝕄))) $$ [HD HN]
  · isplitl [HD]; · iexact HD
    iexact HN
  imodintro
  isplitl
  · isplitl [Hv]
    · iapply (any_whole (F := F) c main_v1); iexists _; iexact Hv
    isplitl [Hlev]; · iexact Hlev
    isplitl [Ha Hb Hc Hd He Hf Hg Hh H1]
    · iframe Ha Hb Hc Hd He Hf Hg Hh H1
    isplitl [HR]; · iexact HR
    isplitl [HDC]
    · iapply (all_due (Xm m) (Wm m) (Am m) (Bm m) c); iexact HDC
    iexact HC
  · iempintro

theorem phi_in (c : Dev nD) :
    iprop(Before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Before m c ∗ Scratch (F := F) c) from rfl]
  iintro ⟨Hs, -, Hr⟩
  isplitl [Hs]; · iexact Hs
  iapply (scratch_in (F := F) c); iexact Hr

/-- What is read of the final state beside the operands. -/
def Left (c : Dev nD) : sProp 𝕄 :=
  iprop(unscopedSems0 c ∗ (((c : Thread nD τ).loc main_v1) ↦{fullShare} (result (Xm m) (Wm m) (Am m) (Bm m) c : Buf (Elt F) ((c : Thread nD τ).loc main_v1))))

theorem phi_out (c : Dev nD) :
    (dats m 0 c).Φ (Fin.last cfg0.N) ⊢ iprop(Left m c ∗ Pipeline.ownSems0 osem c ∗ Pipeline.scopedRest cfg0.spec c) := by
  rw [show (dats m 0 c).Φ (Fin.last cfg0.N) = iprop(After m c ∗ Scratch (F := F) c) from rfl, ownSems_eq]
  unfold After Left
  rw [unscopedSems_eq]
  iintro ⟨⟨Ho, Hb, Hs, Hr, Hc⟩, HS⟩
  isplitl [Ho Hb]
  · isplitl [Hb]; · iexact Hb
    iapply (Entails.of_eq (owns_whole (c : Thread nD τ) main_v1 fullShare (result (Xm m) (Wm m) (Am m) (Bm m) c)))
    iexact Ho
  isplitl [Hs Hr Hc]
  · iframe Hs Hr Hc
  iapply (scratch_out (F := F) c); iexact HS

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The theorem -/

/-- What holds of the final memory on device `c`. -/
def Good (c : Dev nD) (s : MemSt nD τ sig (Elt F)) : Prop :=
  (∀ sm : SemLoc sig, sm.isScoped .tc = false → s.sem ((c.tc : Thread nD τ), sm) = 0)
    ∧ s.mem ((c : Thread nD τ).loc main_v1) = result (Xm m) (Wm m) (Am m) (Bm m) c

theorem read_left (c : Dev nD) (s' : Phys nD τ sig (Elt F)) : iprop(Left m c ∗ iprop(emp) ∗ SI s') ⊢ |={Set.univ}=> iprop(⌜Good m c s'.mem⌝ ∗ (SI s' : sProp 𝕄)) := by
  unfold Left
  iintro ⟨⟨Hu, Hv⟩, -, HSI⟩
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => hv i (Finset.mem_univ i)⟩
  iexact HSI

set_option maxRecDepth 8000 in
theorem run_main : θ_run defs (onTc (τ := τ) (main (F := F))) ⟨m, fun _ => 0, ρ⟩ (fun r =>
    (∀ c : Dev nD, (∀ w : Fin 4, r.2.mem ((spec0 w).arr.view.loc (c : Thread nD τ)) = m ((spec0 w).arr.view.loc (c : Thread nD τ)))
      ∧ r.2.mem ((c : Thread nD τ).loc main_v1) = result (Xm m) (Wm m) (Am m) (Bm m) c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Xm m) (Wm m) (Am m) (Bm m)) (G' := Ghost (Xm m) (Wm m) (Am m) (Bm m)) (u₀ := u₀)
    (hu₀ := by
      unfold u₀
      iintro Hu
      ihave H := (ownU_pair _ _) $$ Hu
      icases H with ⟨HP, HX⟩
      imod (fund (Xm m) (Wm m) (Am m) (Bm m)) $$ HX with HG
      imodintro
      isplitl [HP] <;> iassumption)
    (hglob := glob (Xm m) (Wm m) (Am m) (Bm m))
    (hA := fun _ _ => rfl) (hpf := fun _ k => k.elim0)
    (X := Before m) (Y := Left m) (Z := fun _ => iprop(emp))
    (hX := start_intro m ρ) (hin := phi_in m) (hout := phi_out m)
    (QY := Good m) (hY := read_left m)
    (hQ := fun _ h hs => ⟨fun c => ⟨fun w => ((h c).1 w).trans ((dats m 0 c).arrAt_in w (by revert w; decide) _), (h c).2.2.2⟩,
      sem_eq_zero hs fun c => (h c).2.2.1⟩)

end Cert.Exchange

end
-- ==== Proof.Rounded.lean ====
/-
# The quantiser, and the sum the programs compute with it

`rounded v` is what the receiver of a block `v` sees: every entry divided by the block's scale (its greatest absolute
value over 127), rounded to an integer, clipped to ±127 and multiplied by the scale again. `grouped` rounds a block of
1024 rows group by group: rows 0–255, 256–767 and 768–1023, each under a scale of its own. `block own near mid far` is
the sum of one device's 1024 result rows: its own product, the rounded product of its partner, and the rounded sum of
the product of its other partner with the rounded product of the last device.
-/
module

public import Idealize.ShloMosaic.Lib.Pipeline.Value
public import Idealize.ShloMosaic.Lib.Pointwise

@[expose] public section

noncomputable section

namespace Cert.Exchange

open Idealize.ShloMosaic

variable {F : FTy → Type} [FloatOps F]

/-- `h` rows of 2048, and the same with a leading axis. -/
abbrev Rows (h : ℕ) : Shape := ⟨2, ![h, 2048]⟩
abbrev Slab (h : ℕ) : Shape := ⟨3, ![1, h, 2048]⟩

/-- What the greatest absolute value of `h` rows needs of the shapes. -/
structure Fits (h : ℕ) : Prop where
  cast : (Rows h).ShapeCasts (Slab h)
  red : (Slab h).Reduces [1, 2] ⟨1, ![1]⟩

theorem one_cast : (⟨1, ![1]⟩ : Shape).ShapeCasts ⟨3, ![1, 1, 1]⟩ := by decide
theorem one_inb : ∀ a, (![0, 0, 0] : Fin 3 → ℕ) a < (⟨3, ![1, 1, 1]⟩ : Shape).size a := by decide

/-- A block's scale. -/
def scale {h : ℕ} (hf : Fits h) (v : FVec F (Rows h) .f32) : F .f32 :=
  Scalar.divf (Scalar.maximumf
    (extractAt ![0, 0, 0] (shapeCast ⟨3, ![1, 1, 1]⟩
      (multiReduction .maximumf [1, 2] ⟨1, ![1]⟩ (shapeCast (Slab h) (absf v) hf.cast) 0xFF800000#32 hf.red (.inl rfl) rfl) one_cast) one_inb)
    (Scalar.ofBits .f32 0x0DA24260#32)) (Scalar.ofBits .f32 0x42FE0000#32)

/-- Its entries over the scale, rounded and clipped. -/
def codes {h : ℕ} (hf : Fits h) (v : FVec F (Rows h) .f32) : FVec F (Rows h) .f32 :=
  minimumf (broadcast (Rows h) (Scalar.ofBits .f32 0x42FE0000#32))
    (maximumf (broadcast (Rows h) (Scalar.ofBits .f32 0xC2FE0000#32)) (roundeven (divf v (broadcast (Rows h) (scale hf v)))))

/-- The block as its receiver sees it. -/
def rounded {h : ℕ} (hf : Fits h) (v : FVec F (Rows h) .f32) : FVec F (Rows h) .f32 :=
  mulf (codes hf v) (broadcast (Rows h) (scale hf v))

theorem fits256 : Fits 256 := ⟨by decide, by decide⟩
theorem fits512 : Fits 512 := ⟨by decide, by decide⟩
theorem fits1024 : Fits 1024 := ⟨by decide, by decide⟩

/-- Rows `o` to `o + h` of an array of `n` rows. -/
abbrev cut {n : ℕ} (h o : ℕ) (hs : (Rows n).Slices ![o, 0] (Rows h)) (v : FVec F (Rows n) .f32) : FVec F (Rows h) .f32 :=
  extractStridedSlice (Rows h) ![o, 0] v hs

theorem sl0 : (Rows 1024).Slices ![0, 0] (Rows 256) := by decide
theorem sl1 : (Rows 1024).Slices ![256, 0] (Rows 512) := by decide
theorem sl2 : (Rows 1024).Slices ![768, 0] (Rows 256) := by decide
theorem groups : Shape.Concatenates [Rows 256, Rows 512, Rows 256] (Rows 1024) 0 := by decide

/-- A block of 1024 rows rounded group by group. -/
def grouped (v : FVec F (Rows 1024) .f32) : FVec F (Rows 1024) .f32 :=
  concatenate (Rows 1024) 0 [⟨Rows 256, rounded fits256 (cut 256 0 sl0 v)⟩, ⟨Rows 512, rounded fits512 (cut 512 256 sl1 v)⟩,
    ⟨Rows 256, rounded fits256 (cut 256 768 sl2 v)⟩] groups

/-- The rows of `P` that make up the `q`-th device's result. -/
theorem quarter (q : Fin 4) : (Rows 4096).Slices ![1024 * q.val, 0] (Rows 1024) := by revert q; decide
abbrev rowsOf (q : Fin 4) (P : FVec F (Rows 4096) .f32) : FVec F (Rows 1024) .f32 := cut 1024 (1024 * q.val) (quarter q) P

/-- One device's rows before the last multiplication. -/
def block (own near mid far : FVec F (Rows 1024) .f32) : FVec F (Rows 1024) .f32 :=
  addf (addf own (rounded fits1024 near)) (grouped (addf mid (grouped far)))

/-- Group `k` of a grouped block is that group of the block, rounded. -/
theorem cut0_grouped (v : FVec F (Rows 1024) .f32) : cut 256 0 sl0 (grouped v) = rounded fits256 (cut 256 0 sl0 v) := by
  funext j; unfold cut grouped; pointwise
theorem cut1_grouped (v : FVec F (Rows 1024) .f32) : cut 512 256 sl1 (grouped v) = rounded fits512 (cut 512 256 sl1 v) := by
  funext j; unfold cut grouped; pointwise
theorem cut2_grouped (v : FVec F (Rows 1024) .f32) : cut 256 768 sl2 (grouped v) = rounded fits256 (cut 256 768 sl2 v) := by
  funext j; unfold cut grouped; pointwise
  refine (dif_neg (by omega)).trans ((dif_neg (by omega)).trans (congrArg _ (funext fun a => Fin.ext ?_)))
  match a with
  | ⟨0, _⟩ => show 768 + (j 0).val - 256 - 512 = (j 0).val; omega
  | ⟨1, _⟩ => rfl

/-! ## Over the reals, the trip through eight-bit integers loses nothing -/

section Ideal

theorem word_127 : (FloatOps.ofBits .f32 0x42FE0000#32 : Ideal .f32) = ((127 : ℝ) : EReal) := by
  show Ideal.ofBits .f32 0x42FE0000#32 = _
  simp [Ideal.ofBits, Ideal.ieee]; rw [← EReal.coe_mul]; norm_num
theorem word_neg127 : (FloatOps.ofBits .f32 0xC2FE0000#32 : Ideal .f32) = ((-127 : ℝ) : EReal) := by
  show Ideal.ofBits .f32 0xC2FE0000#32 = _
  simp [Ideal.ofBits, Ideal.ieee]; rw [← EReal.coe_mul]; norm_num

/-- An integer between −127 and 127 survives the two conversions. -/
theorem trip_int (n : ℤ) (h : -127 ≤ n) (h' : n ≤ 127) :
    FloatOps.sitofp (F := Ideal) .f32 (FloatOps.fptosi (F := Ideal) (φ := .f32) 8 ((n : ℝ) : EReal)) = ((n : ℝ) : EReal) := by
  show (((Ideal.fptosi 8 ((n : ℝ) : EReal)).toInt : ℝ) : EReal) = _
  have e : Ideal.toIntClamped (-(2 ^ (8 - 1) : ℕ)) ((2 ^ (8 - 1) : ℕ) - 1) ((n : ℝ) : EReal) = n := by
    show max _ (min _ (if 0 ≤ (n : ℝ) then ⌊(n : ℝ)⌋ else ⌈(n : ℝ)⌉)) = n
    rw [Int.floor_intCast, Int.ceil_intCast, ite_self]; norm_num; omega
  unfold Ideal.fptosi
  rw [e, BitVec.toInt_ofInt]
  congr 2
  norm_num only [Int.bmod_def]
  split <;> omega

/-- A rounded and clipped number is such an integer. -/
theorem clip_int (z : EReal) : ∃ n : ℤ, -127 ≤ n ∧ n ≤ 127 ∧
    min ((127 : ℝ) : EReal) (max ((-127 : ℝ) : EReal) (Ideal.liftRound Ideal.roundHalfEven z)) = ((n : ℝ) : EReal) := by
  induction z using EReal.rec with
  | bot => exact ⟨-127, by omega, by omega, by
      rw [Ideal.liftRound_bot, max_eq_left bot_le, min_eq_right (EReal.coe_le_coe_iff.mpr (by norm_num))]; norm_num⟩
  | top => exact ⟨127, by omega, by omega, by rw [Ideal.liftRound_top, max_eq_right le_top, min_eq_left le_top]; norm_num⟩
  | coe r => exact ⟨min 127 (max (-127) (Ideal.roundHalfEven r)), by omega, by omega, by
      rw [Ideal.liftRound_coe, ← EReal.coe_strictMono.monotone.map_max, ← EReal.coe_strictMono.monotone.map_min]; push_cast; rfl⟩

/-- So a block received and multiplied by its scale is the rounded block. -/
theorem trip {h : ℕ} (hf : Fits h) (v : FVec Ideal (Rows h) .f32) :
    mulf (sitofp .f32 (fptosi 8 (codes hf v))) (broadcast (Rows h) (scale hf v)) = rounded hf v := by
  unfold rounded
  congr 1
  funext j
  obtain ⟨n, h1, h2, e⟩ := clip_int (divf v (broadcast (Rows h) (scale hf v)) j)
  have e' : codes hf v j = ((n : ℝ) : EReal) := by rw [← e, ← word_127, ← word_neg127]; rfl
  show FloatOps.sitofp (F := Ideal) .f32 (FloatOps.fptosi (F := Ideal) (φ := .f32) 8 (codes hf v j)) = codes hf v j
  rw [e']
  exact trip_int n h1 h2

end Ideal

end Cert.Exchange

end
-- ==== Proof.KernelValue.lean ====
/-
# What the exchange computes, over the reals

`product x w` is a matrix product entry by entry. With the operands of device `d` it is `d`'s partial product; what the
devices compute piece by piece are row ranges of it, and what they receive are the rounded pieces. So device `c`'s
result is `block` of four row ranges, times the product of its scales.
-/
module

public import proofs.«01_k».proof.Proof.Pieces
public import proofs.«01_k».proof.Proof.Rounded

@[expose] public section

noncomputable section

namespace Cert.Exchange

open Cert.KernelIdeal Cert.KernelIdeal.Gen
open Idealize.ShloMosaic Idealize.ShloMosaic.TcCoe

/-- Device `c`'s rows of the sum of the partial products `P`. -/
def total {F : FTy → Type} [FloatOps F] (P : Dev nD → FVec F (Rows 4096) .f32) (c : Dev nD) : FVec F (Rows 1024) .f32 :=
  block (rowsOf c (P c)) (rowsOf c (P (p1 c))) (rowsOf c (P (p2 c))) (rowsOf c (P (p1 (p2 c))))

/-- A product of `h` rows of 1024 with 1024 rows of 2048. -/
def product {h : ℕ} (x : FVec Ideal ⟨2, ![h, 1024]⟩ .fp8e5m2) (w : FVec Ideal ⟨2, ![1024, 2048]⟩ .fp8e5m2) : FVec Ideal (Rows h) .f32 :=
  fun j => ∑ k : Fin 1024, (x (ix2 (j 0) k) * w (ix2 k (j 1)) : EReal)

theorem matmul_256 (x : FVec Ideal S256x1024 .fp8e5m2) (w : FVec Ideal S1024x2048 .fp8e5m2) :
    matmul dot_S256x1024_S1024x2048_S256x2048_1_0_0_1_n_n none x w (constant S256x2048 .f32 0x00000000#32) = product x w := by
  funext j; unfold product; pointwise
theorem matmul_512 (x : FVec Ideal S512x1024 .fp8e5m2) (w : FVec Ideal S1024x2048 .fp8e5m2) :
    matmul dot_S512x1024_S1024x2048_S512x2048_1_0_0_1_n_n none x w (constant S512x2048 .f32 0x00000000#32) = product x w := by
  funext j; unfold product; pointwise
theorem matmul_1024 (x : FVec Ideal S1024x1024 .fp8e5m2) (w : FVec Ideal S1024x2048 .fp8e5m2) :
    matmul dot_S1024x1024_S1024x2048_S1024x2048_1_0_0_1_n_n none x w (constant S1024x2048 .f32 0x00000000#32) = product x w := by
  funext j; unfold product; pointwise

/-- Rows `o` to `o + h` of a product are the product with those rows. -/
theorem cut_product {n h o : ℕ} (hs : (Rows n).Slices ![o, 0] (Rows h)) (X : FVec Ideal ⟨2, ![n, 1024]⟩ .fp8e5m2)
    (w : FVec Ideal ⟨2, ![1024, 2048]⟩ .fp8e5m2) (x : FVec Ideal ⟨2, ![h, 1024]⟩ .fp8e5m2)
    (hx : ∀ (r : Fin h) (hr : o + r.val < n) (k : Fin 1024), x (ix2 r k) = X (ix2 ⟨o + r.val, hr⟩ k)) :
    product x w = cut h o hs (product X w) := by
  have hb : o + h ≤ n := hs.2 0
  funext j
  have hj : (j 0).val < h := (j 0).isLt
  unfold cut extractStridedSlice product
  refine Finset.sum_congr rfl fun k _ => ?_
  refine congrArg₂ (fun a b : EReal => a * b) (hx (j 0) (by omega) k) (congrArg w (funext fun a => Fin.ext ?_))
  match a with
  | ⟨0, _⟩ => rfl
  | ⟨1, _⟩ => show (j 1).val = 0 + (j 1).val; omega

/-- A load of `h` rows from row `o` on reads those rows. -/
theorem load_rows {h o : ℕ} (X : FVec Ideal S4096x1024 .fp8e5m2) (off : Fin 2 → ℕ) (hoff : off = ![o, 0])
    (hin : ∀ a, off a + (![h, 1024] : Fin 2 → ℕ) a ≤ S4096x1024.size a) (r : Fin h) (hr : o + r.val < 4096) (k : Fin 1024) :
    X ((Rect.unit (s := S4096x1024) off ![h, 1024] hin).emb (ix2 r k)) = X (ix2 ⟨o + r.val, hr⟩ k) := by
  subst hoff
  refine congrArg X (funext fun a => Fin.ext ?_)
  match a with
  | ⟨0, _⟩ => show o + 1 * r.val = o + r.val; omega
  | ⟨1, _⟩ => show 0 + 1 * k.val = k.val; omega

/-- The product with 1024 loaded rows, -/
theorem product_rows (q : Fin 4) (X : FVec Ideal S4096x1024 .fp8e5m2) (w : FVec Ideal S1024x2048 .fp8e5m2) (off : Fin 2 → ℕ)
    (hoff : off = ![1024 * q.val, 0]) (hin : ∀ a, off a + (![1024, 1024] : Fin 2 → ℕ) a ≤ S4096x1024.size a) :
    product (fun j => X ((Rect.unit (s := S4096x1024) off ![1024, 1024] hin).emb j)) w = rowsOf q (product X w) :=
  cut_product (quarter q) X w _ fun r hr k => load_rows X off hoff hin r hr k

/-- and with a group of them. -/
theorem product_group {h o : ℕ} (hs : (Rows 1024).Slices ![o, 0] (Rows h)) (q : Fin 4) (X : FVec Ideal S4096x1024 .fp8e5m2)
    (w : FVec Ideal S1024x2048 .fp8e5m2) (off : Fin 2 → ℕ) (hoff : off = ![1024 * q.val + o, 0])
    (hin : ∀ a, off a + (![h, 1024] : Fin 2 → ℕ) a ≤ S4096x1024.size a) :
    product (fun j => X ((Rect.unit (s := S4096x1024) off ![h, 1024] hin).emb j)) w = cut h o hs (rowsOf q (product X w)) := by
  have hb : o + h ≤ 1024 := hs.2 0
  have hq := q.isLt
  have e : rowsOf q (product X w) = product (h := 1024) (fun j => X (ix2 ⟨1024 * q.val + (j 0).val, by
      have : (j 0).val < 1024 := (j 0).isLt
      omega⟩ (j 1))) w := (cut_product (quarter q) X w _ fun r hr k => rfl).symm
  rw [e]
  refine cut_product hs _ w _ fun r hr k => (load_rows X off hoff hin r (by have := r.isLt; omega) k).trans ?_
  refine congrArg X (funext fun a => Fin.ext ?_)
  match a with
  | ⟨0, _⟩ => show 1024 * q.val + o + r.val = 1024 * q.val + (o + r.val); omega
  | ⟨1, _⟩ => rfl

/-! ## Where the loads start -/

theorem off1_0 : ∀ c : Dev nD, k0_off1 c 0#32 = ![1024 * (p2 (p1 c)).val + 0, 0] := by decide +kernel
theorem off2_ : ∀ c : Dev nD, k0_off2 c = ![1024 * (p2 (p1 c)).val + 256, 0] := by decide +kernel
theorem off1_2 : ∀ c : Dev nD, k0_off1 c 768#32 = ![1024 * (p2 (p1 c)).val + 768, 0] := by decide +kernel
theorem off3_ : ∀ c : Dev nD, k0_off3 c = ![1024 * (p1 c).val, 0] := by decide +kernel
theorem off4_0 : ∀ c : Dev nD, k0_off4 c 0#32 = ![1024 * (p2 c).val + 0, 0] := by decide +kernel
theorem off5_ : ∀ c : Dev nD, k0_off5 c = ![1024 * (p2 c).val + 256, 0] := by decide +kernel
theorem off4_2 : ∀ c : Dev nD, k0_off4 c 768#32 = ![1024 * (p2 c).val + 768, 0] := by decide +kernel
theorem off6_ : ∀ c : Dev nD, k0_off6 c = ![1024 * c.val, 0] := by decide +kernel

/-! ## The pieces -/

section Values

variable (Xs : Dev nD → Vec Ideal S4096x1024 .fp8e5m2) (Ws : Dev nD → Vec Ideal S1024x2048 .fp8e5m2)
variable (As Bs : Dev nD → Vec Ideal S1 .f32)

/-- Device `d`'s partial product. -/
def part (d : Dev nD) : FVec Ideal (Rows 4096) .f32 := product (Xs d) (Ws d)

theorem w5_eq (c : Dev nD) : w5 Ws c = Ws c := funext fun j => congrArg (Ws c) (all_emb j)
theorem w6_eq (c : Dev nD) : w6 Ws c = Ws c := (shapeCast_self _ _).trans (w5_eq Ws c)

/-- What the receiver of codes `i` under the scale slab `z` sees. -/
abbrev seen {h : ℕ} (i : IVec (Rows h) 8) (z : FVec Ideal S1x8x128 .f32) : FVec Ideal (Rows h) .f32 :=
  mulf (sitofp .f32 i) (broadcast (Rows h) (extractAt (s := S1x1x1) (α := Ideal .f32) ![0, 0, 0] (hd (F := Ideal) z) one_inb))

/-- If `i` and `z` are what compressing `v` gives, that is `v` rounded. -/
theorem seen_eq {h : ℕ} (hf : Fits h) (v : FVec Ideal (Rows h) .f32) {i : IVec (Rows h) 8} {z : FVec Ideal S1x8x128 .f32}
    {hc : (Rows h).ShapeCasts (Rows h)}
    (hi : i = shapeCast (Rows h) (fptosi 8 (codes hf v)) hc) (hz : extractAt (s := S1x1x1) (α := Ideal .f32) ![0, 0, 0] (hd (F := Ideal) z) one_inb = scale hf v) : seen i z = rounded hf v := by
  unfold seen; rw [hi, shapeCast_self, hz]; exact trip hf v

/-- The products of the first hop: for the device across, -/
theorem sendA0 (c : Dev nD) : k0_pay2 (w5 Ws c) (xA0 Xs c) = cut 256 0 sl0 (rowsOf (p2 (p1 c)) (part Xs Ws c)) := by
  unfold k0_pay2; dsimp only
  rw [shapeCast_self, show k0_pay1 (w5 Ws c) = Ws c from w6_eq Ws c, matmul_256]
  exact product_group sl0 (p2 (p1 c)) (Xs c) (Ws c) _ (off1_0 c) _
theorem sendA1 (c : Dev nD) : k0_pay7 (w6 Ws c) (xA1 Xs c) = cut 512 256 sl1 (rowsOf (p2 (p1 c)) (part Xs Ws c)) := by
  unfold k0_pay7; dsimp only
  rw [shapeCast_self, w6_eq, matmul_512]
  exact product_group sl1 (p2 (p1 c)) (Xs c) (Ws c) _ (off2_ c) _
theorem sendA2 (c : Dev nD) : k0_pay11 (w6 Ws c) (xA2 Xs c) = cut 256 768 sl2 (rowsOf (p2 (p1 c)) (part Xs Ws c)) := by
  unfold k0_pay11; dsimp only
  rw [shapeCast_self, w6_eq, matmul_256]
  exact product_group sl2 (p2 (p1 c)) (Xs c) (Ws c) _ (off1_2 c) _
/-- and for the partner itself. -/
theorem sendB (c : Dev nD) : k0_pay15 (w6 Ws c) (xB Xs c) = rowsOf (p1 c) (part Xs Ws c) := by
  unfold k0_pay15; dsimp only
  rw [shapeCast_self, w6_eq, matmul_1024]
  exact product_rows (p1 c) (Xs c) (Ws c) _ (off3_ c) _

/-- The products of the second hop. -/
theorem f0_eq (c : Dev nD) : f0 Xs Ws c = cut 256 0 sl0 (rowsOf (p2 c) (part Xs Ws c)) := by
  unfold f0 k0_pay22 k0_pay21; dsimp only
  rw [shapeCast_self, shapeCast_self, w6_eq, matmul_256]
  exact product_group sl0 (p2 c) (Xs c) (Ws c) _ (off4_0 c) _
theorem f1_eq (c : Dev nD) : f1 Xs Ws c = cut 512 256 sl1 (rowsOf (p2 c) (part Xs Ws c)) := by
  unfold f1 k0_pay27; dsimp only
  rw [shapeCast_self, shapeCast_self, w6_eq, matmul_512]
  exact product_group sl1 (p2 c) (Xs c) (Ws c) _ (off5_ c) _
theorem f2_eq (c : Dev nD) : f2 Xs Ws c = cut 256 768 sl2 (rowsOf (p2 c) (part Xs Ws c)) := by
  unfold f2 k0_pay32; dsimp only
  rw [shapeCast_self, shapeCast_self, w6_eq, matmul_256]
  exact product_group sl2 (p2 c) (Xs c) (Ws c) _ (off4_2 c) _

/-- A device's own product. -/
theorem acc0_eq (c : Dev nD) : acc0 Xs Ws c = rowsOf c (part Xs Ws c) := by
  unfold acc0 k0_pay39 k0_pay38; dsimp only
  rw [shapeCast_self, shapeCast_self, w6_eq, matmul_1024]
  exact product_rows c (Xs c) (Ws c) _ (off6_ c) _

/-! ## What is received -/

theorem seenA0 (c : Dev nD) : seen (dA0 Xs Ws c) (zA0 Xs Ws c) = rounded fits256 (cut 256 0 sl0 (rowsOf (p2 (p1 c)) (part Xs Ws c))) := by
  rw [← sendA0]; exact seen_eq fits256 _ (hc := rfl) rfl rfl
theorem seenA1 (c : Dev nD) : seen (dA1 Xs Ws c) (zA1 Xs Ws c) = rounded fits512 (cut 512 256 sl1 (rowsOf (p2 (p1 c)) (part Xs Ws c))) := by
  rw [← sendA1]; exact seen_eq fits512 _ (hc := rfl) rfl rfl
theorem seenA2 (c : Dev nD) : seen (dA2 Xs Ws c) (zA2 Xs Ws c) = rounded fits256 (cut 256 768 sl2 (rowsOf (p2 (p1 c)) (part Xs Ws c))) := by
  rw [← sendA2]; exact seen_eq fits256 _ (hc := rfl) rfl rfl
theorem seenB (c : Dev nD) : seen (dB Xs Ws c) (zB Xs Ws c) = rounded fits1024 (rowsOf (p1 c) (part Xs Ws c)) := by
  rw [← sendB]; exact seen_eq fits1024 _ (hc := rfl) rfl rfl

/-- Device `c`'s relayed sum: its product for `p2 c`, and the rounded product of its partner for `p2 c`. -/
def relay (c : Dev nD) : FVec Ideal (Rows 1024) .f32 :=
  addf (rowsOf (p2 c) (part Xs Ws c)) (grouped (rowsOf (p2 c) (part Xs Ws (p1 c))))

theorem relay0 (c : Dev nD) : cut 256 0 sl0 (relay Xs Ws c) = addf (f0 Xs Ws c) (seen (dA0 Xs Ws (p1 c)) (zA0 Xs Ws (p1 c))) := by
  rw [f0_eq, seenA0, p1_p1, ← cut0_grouped]; rfl
theorem relay1 (c : Dev nD) : cut 512 256 sl1 (relay Xs Ws c) = addf (f1 Xs Ws c) (seen (dA1 Xs Ws (p1 c)) (zA1 Xs Ws (p1 c))) := by
  rw [f1_eq, seenA1, p1_p1, ← cut1_grouped]; rfl
theorem relay2 (c : Dev nD) : cut 256 768 sl2 (relay Xs Ws c) = addf (f2 Xs Ws c) (seen (dA2 Xs Ws (p1 c)) (zA2 Xs Ws (p1 c))) := by
  rw [f2_eq, seenA2, p1_p1, ← cut2_grouped]; rfl

theorem seenC0 (c : Dev nD) : seen (dC0 Xs Ws c) (zC0 Xs Ws c) = rounded fits256 (cut 256 0 sl0 (relay Xs Ws c)) := by
  rw [relay0]; exact seen_eq fits256 _ (hc := rfl) rfl rfl
theorem seenC1 (c : Dev nD) : seen (dC1 Xs Ws c) (zC1 Xs Ws c) = rounded fits512 (cut 512 256 sl1 (relay Xs Ws c)) := by
  rw [relay1]; exact seen_eq fits512 _ (hc := rfl) rfl rfl
theorem seenC2 (c : Dev nD) : seen (dC2 Xs Ws c) (zC2 Xs Ws c) = rounded fits256 (cut 256 768 sl2 (relay Xs Ws c)) := by
  rw [relay2]; exact seen_eq fits256 _ (hc := rfl) rfl rfl

/-- The accumulator: own product and the partner's, rounded. -/
theorem acc1_eq (c : Dev nD) : acc1 Xs Ws c = addf (rowsOf c (part Xs Ws c)) (rounded fits1024 (rowsOf c (part Xs Ws (p1 c)))) := by
  have h := seenB Xs Ws (p1 c)
  rw [p1_p1] at h
  rw [← h, ← acc0_eq]; unfold acc1 k0_pay40; dsimp only; rw [shapeCast_self]

/-! ## The result -/

theorem total_eq (c : Dev nD) : total (part Xs Ws) c = addf (acc1 Xs Ws c) (grouped (relay Xs Ws (p2 c))) := by
  rw [acc1_eq]; unfold total block relay; rw [p2_p2]

/-- Reading a row group is cutting it out. -/
theorem emb_cut {h o : ℕ} (hs : (Rows 1024).Slices ![o, 0] (Rows h)) (X : FVec Ideal (Rows 1024) .f32)
    (hin : ∀ a, (![o, 0] : Fin 2 → ℕ) a + (Rows h).size a ≤ S1024x2048.size a) :
    (fun j : (Rows h).Idx => X ((Rect.unit (s := S1024x2048) ![o, 0] (Rows h).size hin).emb j)) = cut h o hs X := by
  funext j
  refine congrArg X (funext fun a => Fin.ext ?_)
  match a with
  | ⟨0, _⟩ => show o + 1 * (j 0).val = o + (j 0).val; omega
  | ⟨1, _⟩ => show 0 + 1 * (j 1).val = 0 + (j 1).val; omega

theorem out0_eq (c : Dev nD) : out0 Xs Ws As Bs c = mulf (cut 256 0 sl0 (total (part Xs Ws) c)) (broadcast (Rows 256) (scl As Bs c)) := by
  rw [total_eq]
  have h : cut 256 0 sl0 (addf (acc1 Xs Ws c) (grouped (relay Xs Ws (p2 c))))
      = addf (cut 256 0 sl0 (acc1 Xs Ws c)) (seen (dC0 Xs Ws (p2 c)) (zC0 Xs Ws (p2 c))) := by
    rw [seenC0, ← cut0_grouped]; rfl
  rw [h]; unfold out0 k0_pay42; dsimp only; rw [shapeCast_self, emb_cut sl0]

theorem out1_eq (c : Dev nD) : out1 Xs Ws As Bs c = mulf (cut 512 256 sl1 (total (part Xs Ws) c)) (broadcast (Rows 512) (scl As Bs c)) := by
  rw [total_eq]
  have h : cut 512 256 sl1 (addf (acc1 Xs Ws c) (grouped (relay Xs Ws (p2 c))))
      = addf (cut 512 256 sl1 (acc1 Xs Ws c)) (seen (dC1 Xs Ws (p2 c)) (zC1 Xs Ws (p2 c))) := by
    rw [seenC1, ← cut1_grouped]; rfl
  rw [h]; unfold out1 k0_pay43; dsimp only; rw [shapeCast_self, emb_cut sl1]
theorem out2_eq (c : Dev nD) : out2 Xs Ws As Bs c = mulf (cut 256 768 sl2 (total (part Xs Ws) c)) (broadcast (Rows 256) (scl As Bs c)) := by
  rw [total_eq]
  have h : cut 256 768 sl2 (addf (acc1 Xs Ws c) (grouped (relay Xs Ws (p2 c))))
      = addf (cut 256 768 sl2 (acc1 Xs Ws c)) (seen (dC2 Xs Ws (p2 c)) (zC2 Xs Ws (p2 c))) := by
    rw [seenC2, ← cut2_grouped]; rfl
  rw [h]; unfold out2 k0_pay44; dsimp only; rw [shapeCast_self, emb_cut sl2]

/-- Device `c`'s result is its rows of the sum, scaled. -/
theorem result_eq (c : Dev nD) : result Xs Ws As Bs c = mulf (total (part Xs Ws) c) (broadcast (Rows 1024) (scl As Bs c)) := by
  have h : ∀ (t : Fin 3) (j : (grp t).shape.Idx), result Xs Ws As Bs c ((grp t).emb j)
      = mulf (total (part Xs Ws) c) (broadcast (Rows 1024) (scl As Bs c)) ((grp t).emb j) := by
    intro t
    fin_cases t
    · exact fun j => (result_0 Xs Ws As Bs c j).trans (congrFun ((out0_eq Xs Ws As Bs c).trans (by rw [← emb_cut sl0 _ inb_S1024x2048_S256x2048_0_0])) j)
    · exact fun j => (result_1 Xs Ws As Bs c j).trans (congrFun ((out1_eq Xs Ws As Bs c).trans (by rw [← emb_cut sl1 _ inb_S1024x2048_S512x2048_256_0])) j)
    · exact fun j => (result_2 Xs Ws As Bs c j).trans (congrFun ((out2_eq Xs Ws As Bs c).trans (by rw [← emb_cut sl2 _ inb_S1024x2048_S256x2048_768_0])) j)
  funext i
  obtain ⟨t, -, ht⟩ := Finset.mem_biUnion.mp (grp_cov ▸ Finset.mem_univ i : i ∈ (Finset.univ : Finset (Fin 3)).biUnion fun t => (grp t).set)
  rw [← Rect.map_emb_univ] at ht
  obtain ⟨j, -, rfl⟩ := Finset.mem_map.mp ht
  exact h t j

end Values

end Cert.Exchange

end
-- ==== Proof.RefValue.lean ====
/-
# The reference's result as one function of its arguments

The reference's one store writes `sums P s`: the four devices' rows of the sum of the partial products `P`, one below the
other, times `s`. Its body is read off the generated run; at its one point every window's block is its whole array.
-/
module

public import proofs.«01_k».proof.Proof.Gen.ReferenceIdeal.Value
public import proofs.«01_k».proof.Proof.KernelValue
public import Idealize.ShloMosaic.Lib.LayoutAt
public import Idealize.ShloMosaic.Lib.Pointwise

@[expose] public section

noncomputable section

namespace Cert.Exchange.Ref

open Cert.ReferenceIdeal Cert.ReferenceIdeal.Gen Cert.ReferenceIdeal.Value Idealize.ShloMosaic Idealize.ShloMosaic.TcCoe Idealize.SL.Sem

variable {F : FTy → Type} [FloatOps F]

theorem quarters : Shape.Concatenates [Rows 1024, Rows 1024, Rows 1024, Rows 1024] (Rows 4096) 0 := by decide

/-- The devices' rows of the sum of the partial products `P`, times `s`. -/
def sums (P : Fin 4 → FVec F (Rows 4096) .f32) (s : F .f32) : FVec F (Rows 4096) .f32 :=
  mulf (concatenate (Rows 4096) 0 [⟨Rows 1024, total P (0 : Fin 4)⟩, ⟨Rows 1024, total P (1 : Fin 4)⟩, ⟨Rows 1024, total P (2 : Fin 4)⟩,
    ⟨Rows 1024, total P (3 : Fin 4)⟩] quarters) (broadcast (Rows 4096) s)

section Body

variable (c : Dev nD) (arg0 : Memref sig .tc .vmem S4096x4096 .fp8e5m2) (h0 : arg0.IsWhole)
  (arg1 : Memref sig .tc .vmem S4096x2048 .fp8e5m2) (h1 : arg1.IsWhole)
  (arg2 : Memref sig .tc .smem S1 .f32) (h2 : arg2.IsWhole) (arg3 : Memref sig .tc .smem S1 .f32) (h3 : arg3.IsWhole)
  (arg4 : Memref sig .tc .vmem S4096x2048 .f32) (h4 : arg4.IsWhole)
  (x0 : Vec F S4096x4096 .fp8e5m2) (x1 : Vec F S4096x2048 .fp8e5m2) (x2 : Vec F S1 .f32) (x3 : Vec F S1 .f32)

/-- The loads of the first operand's columns and of the second's rows. -/
abbrev cols (o : ℕ) (h : ∀ a, (![0, o] : Fin 2 → ℕ) a + S4096x1024.size a ≤ S4096x4096.size a) : Vec F S4096x1024 .fp8e5m2 :=
  View.readAt (Elt F) arg0.view (Rect.unit (s := S4096x4096) ![0, o] S4096x1024.size h).toLoadRect (h0.unread x0)
abbrev rws (o : ℕ) (h : ∀ a, (![o, 0] : Fin 2 → ℕ) a + S1024x2048.size a ≤ S4096x2048.size a) : Vec F S1024x2048 .fp8e5m2 :=
  View.readAt (Elt F) arg1.view (Rect.unit (s := S4096x2048) ![o, 0] S1024x2048.size h).toLoadRect (h1.unread x1)

/-- The partial products. -/
def parts : Fin 4 → FVec F (Rows 4096) .f32 := fun
  | 0 => k0_pay2 (cols arg0 h0 x0 0 inb_S4096x4096_S4096x1024_0_0) (rws arg1 h1 x1 0 inb_S4096x2048_S1024x2048_0_0)
  | 1 => k0_pay3 (cols arg0 h0 x0 1024 inb_S4096x4096_S4096x1024_0_1024) (rws arg1 h1 x1 1024 inb_S4096x2048_S1024x2048_1024_0)
  | 2 => k0_pay4 (cols arg0 h0 x0 2048 inb_S4096x4096_S4096x1024_0_2048) (rws arg1 h1 x1 2048 inb_S4096x2048_S1024x2048_2048_0)
  | 3 => k0_pay5 (cols arg0 h0 x0 3072 inb_S4096x4096_S4096x1024_0_3072) (rws arg1 h1 x1 3072 inb_S4096x2048_S1024x2048_3072_0)

theorem rows0 : kernelRun0_A.sl.r_16 c arg0 h0 arg1 h1 x0 x1 = total (parts arg0 h0 arg1 h1 x0 x1) (0 : Fin 4) := rfl
theorem rows1 : kernelRun0_A.sl.r_25 c arg0 h0 arg1 h1 x0 x1 = total (parts arg0 h0 arg1 h1 x0 x1) (1 : Fin 4) := rfl
theorem rows2 : kernelRun0_A.sl.r_38 c arg0 h0 arg1 h1 x0 x1 = total (parts arg0 h0 arg1 h1 x0 x1) (2 : Fin 4) := rfl

theorem zeros1 : (![0] : Fin 1 → ℕ) = 0 := by funext k; fin_cases k; rfl
theorem zeros2 : (![0, 0] : Fin 2 → ℕ) = 0 := by funext k; fin_cases k <;> rfl

/-- What the body leaves in the output's buffer. -/
theorem out_eq : out0_A_4 c arg0 h0 arg1 h1 arg2 h2 arg3 h3 arg4 h4 x0 x1 x2 x3
    = sums (parts arg0 h0 arg1 h1 x0 x1) (Scalar.mulf (kernelRun0_A.sl.r_51 c arg2 h2 x2) (kernelRun0_A.sl.r_52 c arg3 h3 x3)) := by
  unfold out0_A_4
  rw [View.read_writes_junk_eq_canon]
  unfold kernelRun0_A
  dsimp only
  rw [View.canon_unit_zero zeros2, rows0, rows1, rows2]
  rfl

/-- The two scales that the body reads. -/
theorem scale_x : kernelRun0_A.sl.r_51 c arg2 h2 x2 = x2 (Shape.Idx.first (s := S1) (by decide)) := by
  unfold kernelRun0_A.sl.r_51
  rw [View.readAt_eq_ld, h2.read_unread, View.ld_unit_zero zeros1]
theorem scale_w : kernelRun0_A.sl.r_52 c arg3 h3 x3 = x3 (Shape.Idx.first (s := S1) (by decide)) := by
  unfold kernelRun0_A.sl.r_52
  rw [View.readAt_eq_ld, h3.read_unread, View.ld_unit_zero zeros1]

end Body

/-! ## The whole array -/

section Run

variable (m : (ℓ : Loc nD τ sig) → Buf (Elt F) ℓ) (ρ : Dev nD → PrngReg)

theorem at_zero {i n j : ℕ} (h : i = 0) : i * n + 1 * j = j := by subst h; omega

/-- The grid has one point, where every window starts at zero: it holds its whole array. -/
theorem place0 (t : Fin cfg0.N) (j : S4096x4096.Idx) : ((cfg0.win 0).blk t).view.emb j = j :=
  funext fun a => Fin.ext (at_zero ((by decide +kernel : ∀ (t : Fin grid0.N) (a : Fin 2), win0_0.index t a = 0) t a))
theorem place1 (t : Fin cfg0.N) (j : S4096x2048.Idx) : ((cfg0.win 1).blk t).view.emb j = j :=
  funext fun a => Fin.ext (at_zero ((by decide +kernel : ∀ (t : Fin grid0.N) (a : Fin 2), win0_1.index t a = 0) t a))
theorem place2 (t : Fin cfg0.N) (j : S1.Idx) : ((cfg0.win 2).blk t).view.emb j = j :=
  funext fun a => Fin.ext (at_zero ((by decide +kernel : ∀ (t : Fin grid0.N) (a : Fin 1), win0_2.index t a = 0) t a))
theorem place3 (t : Fin cfg0.N) (j : S1.Idx) : ((cfg0.win 3).blk t).view.emb j = j :=
  funext fun a => Fin.ext (at_zero ((by decide +kernel : ∀ (t : Fin grid0.N) (a : Fin 1), win0_3.index t a = 0) t a))
theorem place4 (t : Fin cfg0.N) (j : S4096x2048.Idx) : ((cfg0.win 4).blk t).view.emb j = j :=
  funext fun a => Fin.ext (at_zero ((by decide +kernel : ∀ (t : Fin grid0.N) (a : Fin 2), win0_4.index t a = 0) t a))

theorem whole0 (c : Dev nD) (t : Fin cfg0.N) : iblk m c 0 t = V m c main_arg0 := funext fun j => congrArg (V m c main_arg0) (place0 t j)
theorem whole1 (c : Dev nD) (t : Fin cfg0.N) : iblk m c 1 t = V m c main_arg1 := funext fun j => congrArg (V m c main_arg1) (place1 t j)
theorem whole2 (c : Dev nD) (t : Fin cfg0.N) : iblk m c 2 t = V m c main_arg2 := funext fun j => congrArg (V m c main_arg2) (place2 t j)
theorem whole3 (c : Dev nD) (t : Fin cfg0.N) : iblk m c 3 t = V m c main_arg3 := funext fun j => congrArg (V m c main_arg3) (place3 t j)

end Run

/-! ## Over the reals -/

theorem matmul_4096 (x : FVec Ideal S4096x1024 .fp8e5m2) (w : FVec Ideal S1024x2048 .fp8e5m2) :
    matmul dot_S4096x1024_S1024x2048_S4096x2048_1_0_0_1_n_n none x w (constant S4096x2048 .f32 0x00000000#32) = product x w := by
  funext j; unfold product; pointwise

/-- The columns of the first operand and the rows of the second that device `d` holds. -/
abbrev xOf (x : FVec Ideal S4096x4096 .fp8e5m2) (d : Fin 4) : FVec Ideal S4096x1024 .fp8e5m2 :=
  Layout.block ⟨2, ![4096, 1024]⟩ ⟨2, ![4096, 4096]⟩ 1 4 d x
abbrev wOf (w : FVec Ideal S4096x2048 .fp8e5m2) (d : Fin 4) : FVec Ideal S1024x2048 .fp8e5m2 :=
  Layout.block ⟨2, ![1024, 2048]⟩ ⟨2, ![4096, 2048]⟩ 0 4 d w

section Loads

variable (arg0 : Memref sig .tc .vmem S4096x4096 .fp8e5m2) (h0 : arg0.IsWhole)
  (arg1 : Memref sig .tc .vmem S4096x2048 .fp8e5m2) (h1 : arg1.IsWhole)
  (x : FVec Ideal S4096x4096 .fp8e5m2) (w : FVec Ideal S4096x2048 .fp8e5m2)

theorem col_at (h : Layout.Tiles S4096x1024 S4096x4096 1 4) (d : Fin 4) (j : S4096x1024.Idx) :
    (h.idx d j 0).val = (j 0).val ∧ (h.idx d j 1).val = d.val * 1024 + (j 1).val :=
  ⟨h.idx_val_of_ne d j 0 (by decide), h.idx_val_self d j 1 rfl⟩
theorem row_at (h : Layout.Tiles S1024x2048 S4096x2048 0 4) (d : Fin 4) (j : S1024x2048.Idx) :
    (h.idx d j 0).val = d.val * 1024 + (j 0).val ∧ (h.idx d j 1).val = (j 1).val :=
  ⟨h.idx_val_self d j 0 rfl, h.idx_val_of_ne d j 1 (by decide)⟩

theorem cols_eq (d : Fin 4) (o : ℕ) (ho : o = d.val * 1024) (h) : cols (F := Ideal) arg0 h0 x o h = xOf x d := by
  subst ho
  unfold cols
  rw [View.readAt_eq_ld, h0.read_unread]
  funext j
  refine congrArg x (funext fun a => Fin.ext ?_)
  match a with
  | ⟨0, _⟩ => exact (show 0 + 1 * (j 0).val = (j 0).val by omega).trans (col_at _ d j).1.symm
  | ⟨1, _⟩ => exact (show d.val * 1024 + 1 * (j 1).val = d.val * 1024 + (j 1).val by omega).trans (col_at _ d j).2.symm

theorem rws_eq (d : Fin 4) (o : ℕ) (ho : o = d.val * 1024) (h) : rws (F := Ideal) arg1 h1 w o h = wOf w d := by
  subst ho
  unfold rws
  rw [View.readAt_eq_ld, h1.read_unread]
  funext j
  refine congrArg w (funext fun a => Fin.ext ?_)
  match a with
  | ⟨0, _⟩ => exact (show d.val * 1024 + 1 * (j 0).val = d.val * 1024 + (j 0).val by omega).trans (row_at _ d j).1.symm
  | ⟨1, _⟩ => exact (show 0 + 1 * (j 1).val = (j 1).val by omega).trans (row_at _ d j).2.symm

/-- The partial products are those of the devices' operands. -/
theorem parts_eq : parts (F := Ideal) arg0 h0 arg1 h1 x w = part (xOf x) (wOf w) := by
  funext d
  match d with
  | 0 => exact (matmul_4096 _ _).trans (congrArg₂ product (cols_eq arg0 h0 x 0 _ rfl _) (rws_eq arg1 h1 w 0 _ rfl _))
  | 1 => exact (matmul_4096 _ _).trans (congrArg₂ product (cols_eq arg0 h0 x 1 _ rfl _) (rws_eq arg1 h1 w 1 _ rfl _))
  | 2 => exact (matmul_4096 _ _).trans (congrArg₂ product (cols_eq arg0 h0 x 2 _ rfl _) (rws_eq arg1 h1 w 2 _ rfl _))
  | 3 => exact (matmul_4096 _ _).trans (congrArg₂ product (cols_eq arg0 h0 x 3 _ rfl _) (rws_eq arg1 h1 w 3 _ rfl _))

end Loads

/-- The result as a function of the arguments. -/
def answer (x : FVec Ideal S4096x4096 .fp8e5m2) (w : FVec Ideal S4096x2048 .fp8e5m2) (a b : FVec Ideal S1 .f32) : FVec Ideal S4096x2048 .f32 :=
  sums (part (xOf x) (wOf w)) (Scalar.mulf (a (Shape.Idx.first (s := S1) (by decide))) (b (Shape.Idx.first (s := S1) (by decide))))

/-- Device `c`'s rows of it. -/
theorem answer_block (x : FVec Ideal S4096x4096 .fp8e5m2) (w : FVec Ideal S4096x2048 .fp8e5m2) (a b : FVec Ideal S1 .f32) (c : Fin 4) :
    Layout.block ⟨2, ![1024, 2048]⟩ ⟨2, ![4096, 2048]⟩ 0 4 c (answer x w a b)
      = mulf (total (part (xOf x) (wOf w)) c) (broadcast (Rows 1024)
          (Scalar.mulf (a (Shape.Idx.first (s := S1) (by decide))) (b (Shape.Idx.first (s := S1) (by decide))))) := by
  have e := Layout.block_concatenate_ofFn (s₁ := Rows 1024) (t := Rows 4096) 0 (total (part (xOf x) (wOf w))) quarters (by decide) c
  exact congrArg (fun v => mulf (F := Ideal) v (broadcast (Rows 1024) _)) e

variable (m : (ℓ : Loc nD τ sig) → Buf (Elt Ideal) ℓ) (ρ : Dev nD → PrngReg)

theorem flushed_eq (c : Dev nD) (t : Fin cfg0.N) : (dats m 0 c).flushed 4 t
    = ((cfg0.win 4).blk t).view.read (Elt Ideal) (answer (V m c main_arg0) (V m c main_arg1) (V m c main_arg2) (V m c main_arg3)) := by
  rw [flushed4_A, out_eq, scale_x, scale_w, whole0, whole1, whole2, whole3, parts_eq]
  exact funext fun j => congrArg (answer (V m c main_arg0) (V m c main_arg1) (V m c main_arg2) (V m c main_arg3)) (place4 t j).symm

theorem final (c : Dev nD) : (dats m 0 c).arrAt 4 cfg0.N = answer (m ((c : Thread nD τ).loc main_arg0)) (m ((c : Thread nD τ).loc main_arg1))
    (m ((c : Thread nD τ).loc main_arg2)) (m ((c : Thread nD τ).loc main_arg3)) := by
  rw [← V_main_arg0 m c, ← V_main_arg1 m c, ← V_main_arg2 m c, ← V_main_arg3 m c]
  exact (dats m 0 c).arrAt_eq_of_cover 4 _ (fun t _ => flushed_eq m c t) fun i =>
    ⟨t0_0, flush0_4 _, (place4 t0_0 i) ▸ ((cfg0.win 4).blk t0_0).view.emb_mem_set i⟩

/-- The reference's run. -/
theorem run : θ_run defs (onTc (τ := τ) (main (F := Ideal))) ⟨m, fun _ => 0, ρ⟩ fun r => ∀ c : Dev nD,
      r.2.mem ((c : Thread nD τ).loc main_v0) = answer (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Exchange.Ref

end
-- ==== Proof.Equation.lean ====
/-
# The kernel's run and the reference's

Both results are the devices' rows of one sum: where every device's operands are its part of the reference's, the
kernel's result on device `c` is block `c` of the reference's.
-/
module

public import proofs.«01_k».proof.Proof.Launch
public import proofs.«01_k».proof.Proof.RefValue

@[expose] public section

noncomputable section

namespace Cert.Exchange

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! The windows on the operands hold them whole. -/

theorem Xm_eq (c : Dev nD) : Xm m c = m ((c : Thread nD τ).loc main_arg0) := funext fun j => congrArg (m ((c : Thread nD τ).loc main_arg0))
  (funext fun a => Fin.ext (Ref.at_zero ((by decide +kernel : ∀ a : Fin 2, win0_0.index t0_0 a = 0) a)))
theorem Wm_eq (c : Dev nD) : Wm m c = m ((c : Thread nD τ).loc main_arg1) := funext fun j => congrArg (m ((c : Thread nD τ).loc main_arg1))
  (funext fun a => Fin.ext (Ref.at_zero ((by decide +kernel : ∀ a : Fin 2, win0_1.index t0_0 a = 0) a)))
theorem Am_eq (c : Dev nD) : Am m c = m ((c : Thread nD τ).loc main_arg2) := funext fun j => congrArg (m ((c : Thread nD τ).loc main_arg2))
  (funext fun a => Fin.ext (Ref.at_zero ((by decide +kernel : ∀ a : Fin 1, win0_2.index t0_0 a = 0) a)))
theorem Bm_eq (c : Dev nD) : Bm m c = m ((c : Thread nD τ).loc main_arg3) := funext fun j => congrArg (m ((c : Thread nD τ).loc main_arg3))
  (funext fun a => Fin.ext (Ref.at_zero ((by decide +kernel : ∀ a : Fin 1, win0_3.index t0_0 a = 0) a)))

/-- The kernel's result on device `c`, from the whole arrays whose parts the devices hold. -/
theorem result_block (x : FVec Ideal ⟨2, ![4096, 4096]⟩ .fp8e5m2) (w : FVec Ideal ⟨2, ![4096, 2048]⟩ .fp8e5m2) (a b : FVec Ideal S1 .f32)
    (hx : ∀ c : Dev nD, m ((c : Thread nD τ).loc main_arg0) = Ref.xOf x c) (hw : ∀ c : Dev nD, m ((c : Thread nD τ).loc main_arg1) = Ref.wOf w c)
    (ha : ∀ c : Dev nD, m ((c : Thread nD τ).loc main_arg2) = a) (hb : ∀ c : Dev nD, m ((c : Thread nD τ).loc main_arg3) = b) (c : Dev nD) :
    result (Xm m) (Wm m) (Am m) (Bm m) c = Layout.block ⟨2, ![1024, 2048]⟩ ⟨2, ![4096, 2048]⟩ 0 4 c (Ref.answer x w a b) := by
  have eX : Xm m = Ref.xOf x := funext fun d => (Xm_eq m d).trans (hx d)
  have eW : Wm m = Ref.wOf w := funext fun d => (Wm_eq m d).trans (hw d)
  have eA : Am m = fun _ => a := funext fun d => (Am_eq m d).trans (ha d)
  have eB : Bm m = fun _ => b := funext fun d => (Bm_eq m d).trans (hb d)
  rw [eX, eW, eA, eB, result_eq]
  exact (Ref.answer_block x w a b c).symm

end Cert.Exchange

end
-- ==== Proof.lean ====
/-
# The certificate

The claims of Defs.lean, put together: the run of the kernel (Proof/Launch.lean), which the printed kernel and its ideal
text share, the generated frame of the reference, and the equation of the two results (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The kernel leaves its operands and every counter as it found them, whatever the float values. -/
theorem frame_ideal {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1 0, (h.1 c).1 1, (h.1 c).1 2, (h.1 c).1 3⟩, h.2⟩) (Cert.Exchange.run_main m g)

/-! The printed kernel has the same text as its ideal form. -/

theorem same_body {F : FTy → Type} [FloatOps F] : Cert.Kernel.cc0_body (F := F) = Cert.KernelIdeal.cc0_body (F := F) := by
  unfold Cert.Kernel.cc0_body Cert.KernelIdeal.cc0_body
  rfl
theorem same_label {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    show Cert.Kernel.cc0_body (F := F) _ _ _ _ _ _ _ _ _ _ _ _ _ _ _ _ _ _ _ _ _ _ _ _ _ _ _ _ _ _ _ _ _ = Cert.KernelIdeal.cc0_body (F := F) _ _ _ _ _ _ _ _ _ _ _ _ _ _ _ _ _ _ _ _ _ _ _ _ _ _ _ _ _ _ _ _ _
    rw [same_body]
theorem same_defs {F : FTy → Type} [FloatOps F] : Cert.Kernel.defs (F := F) = Cert.KernelIdeal.defs (F := F) := by
  unfold Cert.Kernel.defs Cert.KernelIdeal.defs
  rw [same_label]; rfl

/-- So it does too as printed. -/
theorem frame_kernel : Cert.quiescent_Kernel := fun m g _ => by
  rw [same_defs]
  exact frame_ideal (F := Bits) m g

/-- On arguments that are the devices' parts of the reference's, the kernel's results are the parts of the reference's. -/
theorem algebraic : Cert.algebraic_KernelIdeal_ReferenceIdeal (hKernelIdeal := Cert.KernelIdeal.Gen.facts) (hReferenceIdeal := Cert.ReferenceIdeal.Gen.facts) :=
  fun m g m' g' _ h => ⟨_,
    (θ_run Cert.KernelIdeal.defs _ _).mono (fun _ r c => ⟨(r.1 c).2.trans (Cert.Exchange.result_block m _ _ _ _
        (fun d => (h d).1) (fun d => (h d).2.1) (fun d => (h d).2.2.1) (fun d => (h d).2.2.2) c),
      (r.1 c).1 0, (r.1 c).1 1, (r.1 c).1 2, (r.1 c).1 3⟩) (Cert.Exchange.run_main m g),
    (θ_run Cert.ReferenceIdeal.defs _ _).mono (fun _ r => r 0) (Cert.Exchange.Ref.run m' g')⟩

theorem claim : Cert.Claim := ⟨Cert.Kernel.Gen.facts, Cert.KernelIdeal.Gen.facts, Cert.ReferenceIdeal.Gen.facts,
  frame_kernel, fun m g _ => frame_ideal (F := Ideal) m g, fun m g _ => Cert.ReferenceIdeal.Gen.frame m g, trivial, algebraic⟩

end Cert.Proof

end
